-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softcap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S16 : Shape := ⟨1, ![16]⟩
abbrev S8x2048x256 : Shape := ⟨3, ![8, 2048, 256]⟩
abbrev S2 : Shape := ⟨1, ![2]⟩
abbrev S2x8 : Shape := ⟨2, ![2, 8]⟩
abbrev S2x1 : Shape := ⟨2, ![2, 1]⟩
abbrev S_ : Shape := ⟨0, ![]⟩
abbrev S1x256x1024 : Shape := ⟨3, ![1, 256, 1024]⟩
abbrev S1x2048x128 : Shape := ⟨3, ![1, 2048, 128]⟩
abbrev S128x2048 : Shape := ⟨2, ![128, 2048]⟩
abbrev S2048x256 : Shape := ⟨2, ![2048, 256]⟩
abbrev S128x128 : Shape := ⟨2, ![128, 128]⟩
abbrev S2048x128 : Shape := ⟨2, ![2048, 128]⟩
abbrev S256x256 : Shape := ⟨2, ![256, 256]⟩
abbrev S1 : Shape := ⟨1, ![1]⟩
abbrev S1x256x128 : Shape := ⟨3, ![1, 256, 128]⟩
abbrev S256x128 : Shape := ⟨2, ![256, 128]⟩
abbrev S1x1 : Shape := ⟨2, ![1, 1]⟩
abbrev S8x256 : Shape := ⟨2, ![8, 256]⟩
abbrev S32x8x256 : Shape := ⟨3, ![32, 8, 256]⟩
abbrev S256 : Shape := ⟨1, ![256]⟩
abbrev S1x256 : Shape := ⟨2, ![1, 256]⟩
abbrev S128x256 : Shape := ⟨2, ![128, 256]⟩

abbrev nBuf : Space → Nat
  | .hbm => 17
  | .vmem => 10
  | .smem => 2
  | _ => 0

abbrev bufTy : (tb : Table) → Fin (tcTables nBuf tb) → BufTy
  | .hbm, ⟨0, _⟩ => ⟨S8x2048x2048, .fp8e4m3⟩
  | .hbm, ⟨1, _⟩ => ⟨S16, .f32⟩
  | .hbm, ⟨2, _⟩ => ⟨S8x2048x256, .fp8e4m3⟩
  | .hbm, ⟨3, _⟩ => ⟨S2, .f32⟩
  | .hbm, ⟨4, _⟩ => ⟨S8x2048x256, .fp8e4m3⟩
  | .hbm, ⟨5, _⟩ => ⟨S2, .f32⟩
  | .hbm, ⟨6, _⟩ => ⟨S2x8, .f32⟩
  | .hbm, ⟨7, _⟩ => ⟨S2x1, .f32⟩
  | .hbm, ⟨8, _⟩ => ⟨S2x8, .f32⟩
  | .hbm, ⟨9, _⟩ => ⟨S2x8, .f32⟩
  | .hbm, ⟨10, _⟩ => ⟨S_, .f32⟩
  | .hbm, ⟨11, _⟩ => ⟨S2x8, .f32⟩
  | .hbm, ⟨12, _⟩ => ⟨S2x8, .f32⟩
  | .hbm, ⟨13, _⟩ => ⟨S_, .f32⟩
  | .hbm, ⟨14, _⟩ => ⟨S2x8, .f32⟩
  | .hbm, ⟨15, _⟩ => ⟨S2x8, .f32⟩
  | .hbm, ⟨16, _⟩ => ⟨S8x2048x2048, .bf16⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x256x1024, .bf16⟩
  | .local _ .vmem, ⟨7, _⟩ => ⟨S1x256x1024, .bf16⟩
  | .local _ .vmem, ⟨8, _⟩ => ⟨S128x2048, .fp8e4m3⟩
  | .local _ .vmem, ⟨9, _⟩ => ⟨S2048x256, .f32⟩
  | .local _ .smem, ⟨0, _⟩ => ⟨S2x8, .f32⟩
  | .local _ .smem, ⟨1, _⟩ => ⟨S2, .f32⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 8], ![false, false, false]⟩

def k0_off1 (i : grid0.Coords) : Fin 1 → Nat :=
  let arg1 : BitVec 32 := BitVec.ofNat 32 (i 1).val
  let v6 : Index := Scalar.indexCast arg1
  ![v6.toNat]
def k0_off2 (i : grid0.Coords) : Fin 2 → Nat :=
  let arg1 : BitVec 32 := BitVec.ofNat 32 (i 1).val
  let v11 : Index := Scalar.indexCast arg1
  let c0_3 : Index := 0#32
  ![v11.toNat, 0]
@[reducible] def k0_t1_loop (i : grid0.Coords) : Scf.Loop 32 :=
  let c0_i32_5 : BitVec 32 := 0#32
  let arg2 : BitVec 32 := BitVec.ofNat 32 (i 2).val
  let v14 : BitVec 32 := Scalar.subi arg2 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_6 : BitVec 32 := 1#32
  ⟨c0_i32_5, v18, c1_i32_6⟩
def k0_off3 (i : grid0.Coords) (k0_t1 : Fin (k0_t1_loop i).trips) : Fin 3 → Nat :=
  let c0_217 : Index := 0#32
  let c0_i32_5 : BitVec 32 := 0#32
  let c1_i32_6 : BitVec 32 := 1#32
  let arg11 : BitVec 32 := Scf.iv c0_i32_5 c1_i32_6 k0_t1
  let c256_i32_216 : BitVec 32 := 256#32
  let v433 : BitVec 32 := Scalar.muli arg11 c256_i32_216
  let v434 : Index := Scalar.indexCast v433
  let c0_218 : Index := 0#32
  ![0, v434.toNat, 0]
def k0_off4 (i : grid0.Coords) (k0_t1 : Fin (k0_t1_loop i).trips) : Fin 2 → Nat :=
  let c0_i32_5 : BitVec 32 := 0#32
  let c1_i32_6 : BitVec 32 := 1#32
  let arg11 : BitVec 32 := Scf.iv c0_i32_5 c1_i32_6 k0_t1
  let c256_i32_221 : BitVec 32 := 256#32
  let v444 : BitVec 32 := Scalar.muli arg11 c256_i32_221
  let v445 : Index := Scalar.indexCast v444
  let c0_222 : Index := 0#32
  ![v445.toNat, 0]
@[reducible] def k0_t2_loop (i : grid0.Coords) : Scf.Loop 32 :=
  let c0_i32_5 : BitVec 32 := 0#32
  let arg2 : BitVec 32 := BitVec.ofNat 32 (i 2).val
  let v14 : BitVec 32 := Scalar.subi arg2 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let v15 : BitVec 32 := Scalar.addi c0_i32_5 v14
  let c1_i32_7 : BitVec 32 := 1#32
  ⟨v18, v15, c1_i32_7⟩
def k0_off5 (i : grid0.Coords) (k0_t2 : Fin (k0_t2_loop i).trips) : Fin 3 → Nat :=
  let c0_217 : Index := 0#32
  let c0_i32_5 : BitVec 32 := 0#32
  let arg2 : BitVec 32 := BitVec.ofNat 32 (i 2).val
  let v14 : BitVec 32 := Scalar.subi arg2 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg11 : BitVec 32 := Scf.iv v18 c1_i32_7 k0_t2
  let c256_i32_216 : BitVec 32 := 256#32
  let v433 : BitVec 32 := Scalar.muli arg11 c256_i32_216
  let v434 : Index := Scalar.indexCast v433
  let c0_218 : Index := 0#32
  ![0, v434.toNat, 0]
def k0_off6 (i : grid0.Coords) (k0_t2 : Fin (k0_t2_loop i).trips) : Fin 2 → Nat :=
  let c0_i32_5 : BitVec 32 := 0#32
  let arg2 : BitVec 32 := BitVec.ofNat 32 (i 2).val
  let v14 : BitVec 32 := Scalar.subi arg2 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg11 : BitVec 32 := Scf.iv v18 c1_i32_7 k0_t2
  let c256_i32_221 : BitVec 32 := 256#32
  let v444 : BitVec 32 := Scalar.muli arg11 c256_i32_221
  let v445 : Index := Scalar.indexCast v444
  let c0_222 : Index := 0#32
  ![v445.toNat, 0]
def k0_off7 (i : grid0.Coords) : Fin 3 → Nat :=
  let c0_8 : Index := 0#32
  let arg2 : BitVec 32 := BitVec.ofNat 32 (i 2).val
  let c256_i32 : BitVec 32 := 256#32
  let v21 : BitVec 32 := Scalar.muli arg2 c256_i32
  let v22 : Index := Scalar.indexCast v21
  let c0_9 : Index := 0#32
  ![0, v22.toNat, 0]
def k0_off8 (i : grid0.Coords) : Fin 2 → Nat :=
  let arg2 : BitVec 32 := BitVec.ofNat 32 (i 2).val
  let c256_i32_13 : BitVec 32 := 256#32
  let v34 : BitVec 32 := Scalar.muli arg2 c256_i32_13
  let v35 : Index := Scalar.indexCast v34
  let c0_14 : Index := 0#32
  ![v35.toNat, 0]
@[reducible] def k0_t3_loop (i : grid0.Coords) : Scf.Loop 32 :=
  let c0_i32_20 : BitVec 32 := 0#32
  let arg2 : BitVec 32 := BitVec.ofNat 32 (i 2).val
  let c1_i32_18 : BitVec 32 := 1#32
  let v46 : BitVec 32 := Scalar.addi arg2 c1_i32_18
  let v48 : BitVec 32 := Scalar.subi v46 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_22 : BitVec 32 := 1#32
  ⟨c0_i32_20, v52, c1_i32_22⟩
def k0_off9 (i : grid0.Coords) (k0_t3 : Fin (k0_t3_loop i).trips) : Fin 2 → Nat :=
  let c0_i32_20 : BitVec 32 := 0#32
  let c1_i32_22 : BitVec 32 := 1#32
  let arg11 : BitVec 32 := Scf.iv c0_i32_20 c1_i32_22 k0_t3
  let c256_i32_216 : BitVec 32 := 256#32
  let v433 : BitVec 32 := Scalar.muli arg11 c256_i32_216
  let v434 : Index := Scalar.indexCast v433
  let c0_217 : Index := 0#32
  ![v434.toNat, 0]
def k0_mult1 (i : grid0.Coords) (k0_t3 : Fin (k0_t3_loop i).trips) : BitVec 32 :=
  let c0_i32_20 : BitVec 32 := 0#32
  let c1_i32_22 : BitVec 32 := 1#32
  let arg11 : BitVec 32 := Scf.iv c0_i32_20 c1_i32_22 k0_t3
  let c256_i32_220 : BitVec 32 := 256#32
  let v443 : BitVec 32 := Scalar.muli arg11 c256_i32_220
  v443
def k0_off10 (i : grid0.Coords) (k0_t3 : Fin (k0_t3_loop i).trips) : Fin 2 → Nat :=
  let c0_221 : Index := 0#32
  let c0_i32_20 : BitVec 32 := 0#32
  let c1_i32_22 : BitVec 32 := 1#32
  let arg11 : BitVec 32 := Scf.iv c0_i32_20 c1_i32_22 k0_t3
  let c256_i32_220 : BitVec 32 := 256#32
  let v443 : BitVec 32 := Scalar.muli arg11 c256_i32_220
  let v444 : BitVec 32 := v443
  let v445 : Index := Scalar.indexCast v444
  ![0, v445.toNat]
@[reducible] def k0_t4_loop (i : grid0.Coords) : Scf.Loop 32 :=
  let c0_i32_20 : BitVec 32 := 0#32
  let arg2 : BitVec 32 := BitVec.ofNat 32 (i 2).val
  let c1_i32_18 : BitVec 32 := 1#32
  let v46 : BitVec 32 := Scalar.addi arg2 c1_i32_18
  let v48 : BitVec 32 := Scalar.subi v46 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let v49 : BitVec 32 := Scalar.addi c0_i32_20 v48
  let c1_i32_23 : BitVec 32 := 1#32
  ⟨v52, v49, c1_i32_23⟩
def k0_off11 (i : grid0.Coords) (k0_t4 : Fin (k0_t4_loop i).trips) : Fin 2 → Nat :=
  let c0_i32_20 : BitVec 32 := 0#32
  let arg2 : BitVec 32 := BitVec.ofNat 32 (i 2).val
  let c1_i32_18 : BitVec 32 := 1#32
  let v46 : BitVec 32 := Scalar.addi arg2 c1_i32_18
  let v48 : BitVec 32 := Scalar.subi v46 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg11 : BitVec 32 := Scf.iv v52 c1_i32_23 k0_t4
  let c256_i32_216 : BitVec 32 := 256#32
  let v433 : BitVec 32 := Scalar.muli arg11 c256_i32_216
  let v434 : Index := Scalar.indexCast v433
  let c0_217 : Index := 0#32
  ![v434.toNat, 0]
def k0_mult2 (i : grid0.Coords) (k0_t4 : Fin (k0_t4_loop i).trips) : BitVec 32 :=
  let c0_i32_20 : BitVec 32 := 0#32
  let arg2 : BitVec 32 := BitVec.ofNat 32 (i 2).val
  let c1_i32_18 : BitVec 32 := 1#32
  let v46 : BitVec 32 := Scalar.addi arg2 c1_i32_18
  let v48 : BitVec 32 := Scalar.subi v46 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg11 : BitVec 32 := Scf.iv v52 c1_i32_23 k0_t4
  let c256_i32_220 : BitVec 32 := 256#32
  let v443 : BitVec 32 := Scalar.muli arg11 c256_i32_220
  v443
def k0_off12 (i : grid0.Coords) (k0_t4 : Fin (k0_t4_loop i).trips) : Fin 2 → Nat :=
  let c0_221 : Index := 0#32
  let c0_i32_20 : BitVec 32 := 0#32
  let arg2 : BitVec 32 := BitVec.ofNat 32 (i 2).val
  let c1_i32_18 : BitVec 32 := 1#32
  let v46 : BitVec 32 := Scalar.addi arg2 c1_i32_18
  let v48 : BitVec 32 := Scalar.subi v46 c0_i32_20
  let c1_i32_21 : BitVec 32 := 1#32
  let v50 : BitVec 32 := Scalar.divsi v48 c1_i32_21
  let v51 : BitVec 32 := Scalar.muli v50 c1_i32_21
  let v52 : BitVec 32 := Scalar.addi c0_i32_20 v51
  let c1_i32_23 : BitVec 32 := 1#32
  let arg11 : BitVec 32 := Scf.iv v52 c1_i32_23 k0_t4
  let c256_i32_220 : BitVec 32 := 256#32
  let v443 : BitVec 32 := Scalar.muli arg11 c256_i32_220
  let v444 : BitVec 32 := v443
  let v445 : Index := Scalar.indexCast v444
  ![0, v445.toNat]
def k0_off13 (i : grid0.Coords) : Fin 2 → Nat :=
  let arg1 : BitVec 32 := BitVec.ofNat 32 (i 1).val
  let v64 : Index := Scalar.indexCast arg1
  let c1 : Index := 1#32
  ![v64.toNat, 1]
@[reducible] def k0_t5_loop (i : grid0.Coords) : Scf.Loop 32 :=
  let c0_i32_30 : BitVec 32 := 0#32
  let arg2 : BitVec 32 := BitVec.ofNat 32 (i 2).val
  let v67 : BitVec 32 := Scalar.subi arg2 c0_i32_30
  let c1_i32_31 : BitVec 32 := 1#32
  let v69 : BitVec 32 := Scalar.divsi v67 c1_i32_31
  let v70 : BitVec 32 := Scalar.muli v69 c1_i32_31
  let v71 : BitVec 32 := Scalar.addi c0_i32_30 v70
  let c1_i32_32 : BitVec 32 := 1#32
  ⟨c0_i32_30, v71, c1_i32_32⟩
def k0_off14 (i : grid0.Coords) (k0_t5 : Fin (k0_t5_loop i).trips) : Fin 3 → Nat :=
  let c0_217 : Index := 0#32
  let c0_i32_30 : BitVec 32 := 0#32
  let c1_i32_32 : BitVec 32 := 1#32
  let arg11 : BitVec 32 := Scf.iv c0_i32_30 c1_i32_32 k0_t5
  let c256_i32_216 : BitVec 32 := 256#32
  let v433 : BitVec 32 := Scalar.muli arg11 c256_i32_216
  let v434 : Index := Scalar.indexCast v433
  let c0_218 : Index := 0#32
  ![0, v434.toNat, 0]
def k0_off15 (i : grid0.Coords) (k0_t5 : Fin (k0_t5_loop i).trips) : Fin 2 → Nat :=
  let c0_i32_30 : BitVec 32 := 0#32
  let c1_i32_32 : BitVec 32 := 1#32
  let arg11 : BitVec 32 := Scf.iv c0_i32_30 c1_i32_32 k0_t5
  let c256_i32_221 : BitVec 32 := 256#32
  let v444 : BitVec 32 := Scalar.muli arg11 c256_i32_221
  let v445 : Index := Scalar.indexCast v444
  let c0_222 : Index := 0#32
  ![v445.toNat, 0]
@[reducible] def k0_t6_loop (i : grid0.Coords) : Scf.Loop 32 :=
  let c0_i32_30 : BitVec 32 := 0#32
  let arg2 : BitVec 32 := BitVec.ofNat 32 (i 2).val
  let v67 : BitVec 32 := Scalar.subi arg2 c0_i32_30
  let c1_i32_31 : BitVec 32 := 1#32
  let v69 : BitVec 32 := Scalar.divsi v67 c1_i32_31
  let v70 : BitVec 32 := Scalar.muli v69 c1_i32_31
  let v71 : BitVec 32 := Scalar.addi c0_i32_30 v70
  let v68 : BitVec 32 := Scalar.addi c0_i32_30 v67
  let c1_i32_33 : BitVec 32 := 1#32
  ⟨v71, v68, c1_i32_33⟩
def k0_off16 (i : grid0.Coords) (k0_t6 : Fin (k0_t6_loop i).trips) : Fin 3 → Nat :=
  let c0_217 : Index := 0#32
  let c0_i32_30 : BitVec 32 := 0#32
  let arg2 : BitVec 32 := BitVec.ofNat 32 (i 2).val
  let v67 : BitVec 32 := Scalar.subi arg2 c0_i32_30
  let c1_i32_31 : BitVec 32 := 1#32
  let v69 : BitVec 32 := Scalar.divsi v67 c1_i32_31
  let v70 : BitVec 32 := Scalar.muli v69 c1_i32_31
  let v71 : BitVec 32 := Scalar.addi c0_i32_30 v70
  let c1_i32_33 : BitVec 32 := 1#32
  let arg11 : BitVec 32 := Scf.iv v71 c1_i32_33 k0_t6
  let c256_i32_216 : BitVec 32 := 256#32
  let v433 : BitVec 32 := Scalar.muli arg11 c256_i32_216
  let v434 : Index := Scalar.indexCast v433
  let c0_218 : Index := 0#32
  ![0, v434.toNat, 0]
def k0_off17 (i : grid0.Coords) (k0_t6 : Fin (k0_t6_loop i).trips) : Fin 2 → Nat :=
  let c0_i32_30 : BitVec 32 := 0#32
  let arg2 : BitVec 32 := BitVec.ofNat 32 (i 2).val
  let v67 : BitVec 32 := Scalar.subi arg2 c0_i32_30
  let c1_i32_31 : BitVec 32 := 1#32
  let v69 : BitVec 32 := Scalar.divsi v67 c1_i32_31
  let v70 : BitVec 32 := Scalar.muli v69 c1_i32_31
  let v71 : BitVec 32 := Scalar.addi c0_i32_30 v70
  let c1_i32_33 : BitVec 32 := 1#32
  let arg11 : BitVec 32 := Scf.iv v71 c1_i32_33 k0_t6
  let c256_i32_221 : BitVec 32 := 256#32
  let v444 : BitVec 32 := Scalar.muli arg11 c256_i32_221
  let v445 : Index := Scalar.indexCast v444
  let c0_222 : Index := 0#32
  ![v445.toNat, 0]
@[reducible] def k0_t7_loop (i : grid0.Coords) : Scf.Loop 32 :=
  let c0_i32_47 : BitVec 32 := 0#32
  let arg2 : BitVec 32 := BitVec.ofNat 32 (i 2).val
  let c1_i32_45 : BitVec 32 := 1#32
  let v99 : BitVec 32 := Scalar.addi arg2 c1_i32_45
  let v101 : BitVec 32 := Scalar.subi v99 c0_i32_47
  let c1_i32_48 : BitVec 32 := 1#32
  let v103 : BitVec 32 := Scalar.divsi v101 c1_i32_48
  let v104 : BitVec 32 := Scalar.muli v103 c1_i32_48
  let v105 : BitVec 32 := Scalar.addi c0_i32_47 v104
  let c1_i32_49 : BitVec 32 := 1#32
  ⟨c0_i32_47, v105, c1_i32_49⟩
def k0_off18 (i : grid0.Coords) (k0_t7 : Fin (k0_t7_loop i).trips) : Fin 2 → Nat :=
  let c0_i32_47 : BitVec 32 := 0#32
  let c1_i32_49 : BitVec 32 := 1#32
  let arg11 : BitVec 32 := Scf.iv c0_i32_47 c1_i32_49 k0_t7
  let c256_i32_216 : BitVec 32 := 256#32
  let v433 : BitVec 32 := Scalar.muli arg11 c256_i32_216
  let v434 : Index := Scalar.indexCast v433
  let c0_217 : Index := 0#32
  ![v434.toNat, 0]
def k0_mult3 (i : grid0.Coords) (k0_t7 : Fin (k0_t7_loop i).trips) : BitVec 32 :=
  let c0_i32_47 : BitVec 32 := 0#32
  let c1_i32_49 : BitVec 32 := 1#32
  let arg11 : BitVec 32 := Scf.iv c0_i32_47 c1_i32_49 k0_t7
  let c256_i32_220 : BitVec 32 := 256#32
  let v443 : BitVec 32 := Scalar.muli arg11 c256_i32_220
  v443
def k0_off19 (i : grid0.Coords) (k0_t7 : Fin (k0_t7_loop i).trips) : Fin 2 → Nat :=
  let c0_221 : Index := 0#32
  let c0_i32_47 : BitVec 32 := 0#32
  let c1_i32_49 : BitVec 32 := 1#32
  let arg11 : BitVec 32 := Scf.iv c0_i32_47 c1_i32_49 k0_t7
  let c256_i32_220 : BitVec 32 := 256#32
  let v443 : BitVec 32 := Scalar.muli arg11 c256_i32_220
  let v444 : BitVec 32 := v443
  let v445 : Index := Scalar.indexCast v444
  ![0, v445.toNat]
@[reducible] def k0_t8_loop (i : grid0.Coords) : Scf.Loop 32 :=
  let c0_i32_47 : BitVec 32 := 0#32
  let arg2 : BitVec 32 := BitVec.ofNat 32 (i 2).val
  let c1_i32_45 : BitVec 32 := 1#32
  let v99 : BitVec 32 := Scalar.addi arg2 c1_i32_45
  let v101 : BitVec 32 := Scalar.subi v99 c0_i32_47
  let c1_i32_48 : BitVec 32 := 1#32
  let v103 : BitVec 32 := Scalar.divsi v101 c1_i32_48
  let v104 : BitVec 32 := Scalar.muli v103 c1_i32_48
  let v105 : BitVec 32 := Scalar.addi c0_i32_47 v104
  let v102 : BitVec 32 := Scalar.addi c0_i32_47 v101
  let c1_i32_50 : BitVec 32 := 1#32
  ⟨v105, v102, c1_i32_50⟩
def k0_off20 (i : grid0.Coords) (k0_t8 : Fin (k0_t8_loop i).trips) : Fin 2 → Nat :=
  let c0_i32_47 : BitVec 32 := 0#32
  let arg2 : BitVec 32 := BitVec.ofNat 32 (i 2).val
  let c1_i32_45 : BitVec 32 := 1#32
  let v99 : BitVec 32 := Scalar.addi arg2 c1_i32_45
  let v101 : BitVec 32 := Scalar.subi v99 c0_i32_47
  let c1_i32_48 : BitVec 32 := 1#32
  let v103 : BitVec 32 := Scalar.divsi v101 c1_i32_48
  let v104 : BitVec 32 := Scalar.muli v103 c1_i32_48
  let v105 : BitVec 32 := Scalar.addi c0_i32_47 v104
  let c1_i32_50 : BitVec 32 := 1#32
  let arg11 : BitVec 32 := Scf.iv v105 c1_i32_50 k0_t8
  let c256_i32_216 : BitVec 32 := 256#32
  let v433 : BitVec 32 := Scalar.muli arg11 c256_i32_216
  let v434 : Index := Scalar.indexCast v433
  let c0_217 : Index := 0#32
  ![v434.toNat, 0]
def k0_mult4 (i : grid0.Coords) (k0_t8 : Fin (k0_t8_loop i).trips) : BitVec 32 :=
  let c0_i32_47 : BitVec 32 := 0#32
  let arg2 : BitVec 32 := BitVec.ofNat 32 (i 2).val
  let c1_i32_45 : BitVec 32 := 1#32
  let v99 : BitVec 32 := Scalar.addi arg2 c1_i32_45
  let v101 : BitVec 32 := Scalar.subi v99 c0_i32_47
  let c1_i32_48 : BitVec 32 := 1#32
  let v103 : BitVec 32 := Scalar.divsi v101 c1_i32_48
  let v104 : BitVec 32 := Scalar.muli v103 c1_i32_48
  let v105 : BitVec 32 := Scalar.addi c0_i32_47 v104
  let c1_i32_50 : BitVec 32 := 1#32
  let arg11 : BitVec 32 := Scf.iv v105 c1_i32_50 k0_t8
  let c256_i32_220 : BitVec 32 := 256#32
  let v443 : BitVec 32 := Scalar.muli arg11 c256_i32_220
  v443
def k0_off21 (i : grid0.Coords) (k0_t8 : Fin (k0_t8_loop i).trips) : Fin 2 → Nat :=
  let c0_221 : Index := 0#32
  let c0_i32_47 : BitVec 32 := 0#32
  let arg2 : BitVec 32 := BitVec.ofNat 32 (i 2).val
  let c1_i32_45 : BitVec 32 := 1#32
  let v99 : BitVec 32 := Scalar.addi arg2 c1_i32_45
  let v101 : BitVec 32 := Scalar.subi v99 c0_i32_47
  let c1_i32_48 : BitVec 32 := 1#32
  let v103 : BitVec 32 := Scalar.divsi v101 c1_i32_48
  let v104 : BitVec 32 := Scalar.muli v103 c1_i32_48
  let v105 : BitVec 32 := Scalar.addi c0_i32_47 v104
  let c1_i32_50 : BitVec 32 := 1#32
  let arg11 : BitVec 32 := Scf.iv v105 c1_i32_50 k0_t8
  let c256_i32_220 : BitVec 32 := 256#32
  let v443 : BitVec 32 := Scalar.muli arg11 c256_i32_220
  let v444 : BitVec 32 := v443
  let v445 : Index := Scalar.indexCast v444
  ![0, v445.toNat]
def k0_off22 (i : grid0.Coords) : Fin 2 → Nat :=
  let arg1 : BitVec 32 := BitVec.ofNat 32 (i 1).val
  let v117 : Index := Scalar.indexCast arg1
  let c2 : Index := 2#32
  ![v117.toNat, 2]
@[reducible] def k0_t9_loop (i : grid0.Coords) : Scf.Loop 32 :=
  let c0_i32_57 : BitVec 32 := 0#32
  let arg2 : BitVec 32 := BitVec.ofNat 32 (i 2).val
  let v120 : BitVec 32 := Scalar.subi arg2 c0_i32_57
  let c1_i32_58 : BitVec 32 := 1#32
  let v122 : BitVec 32 := Scalar.divsi v120 c1_i32_58
  let v123 : BitVec 32 := Scalar.muli v122 c1_i32_58
  let v124 : BitVec 32 := Scalar.addi c0_i32_57 v123
  let c1_i32_59 : BitVec 32 := 1#32
  ⟨c0_i32_57, v124, c1_i32_59⟩
def k0_off23 (i : grid0.Coords) (k0_t9 : Fin (k0_t9_loop i).trips) : Fin 3 → Nat :=
  let c0_217 : Index := 0#32
  let c0_i32_57 : BitVec 32 := 0#32
  let c1_i32_59 : BitVec 32 := 1#32
  let arg11 : BitVec 32 := Scf.iv c0_i32_57 c1_i32_59 k0_t9
  let c256_i32_216 : BitVec 32 := 256#32
  let v433 : BitVec 32 := Scalar.muli arg11 c256_i32_216
  let v434 : Index := Scalar.indexCast v433
  let c0_218 : Index := 0#32
  ![0, v434.toNat, 0]
def k0_off24 (i : grid0.Coords) (k0_t9 : Fin (k0_t9_loop i).trips) : Fin 2 → Nat :=
  let c0_i32_57 : BitVec 32 := 0#32
  let c1_i32_59 : BitVec 32 := 1#32
  let arg11 : BitVec 32 := Scf.iv c0_i32_57 c1_i32_59 k0_t9
  let c256_i32_221 : BitVec 32 := 256#32
  let v444 : BitVec 32 := Scalar.muli arg11 c256_i32_221
  let v445 : Index := Scalar.indexCast v444
  let c0_222 : Index := 0#32
  ![v445.toNat, 0]
@[reducible] def k0_t10_loop (i : grid0.Coords) : Scf.Loop 32 :=
  let c0_i32_57 : BitVec 32 := 0#32
  let arg2 : BitVec 32 := BitVec.ofNat 32 (i 2).val
  let v120 : BitVec 32 := Scalar.subi arg2 c0_i32_57
  let c1_i32_58 : BitVec 32 := 1#32
  let v122 : BitVec 32 := Scalar.divsi v120 c1_i32_58
  let v123 : BitVec 32 := Scalar.muli v122 c1_i32_58
  let v124 : BitVec 32 := Scalar.addi c0_i32_57 v123
  let v121 : BitVec 32 := Scalar.addi c0_i32_57 v120
  let c1_i32_60 : BitVec 32 := 1#32
  ⟨v124, v121, c1_i32_60⟩
def k0_off25 (i : grid0.Coords) (k0_t10 : Fin (k0_t10_loop i).trips) : Fin 3 → Nat :=
  let c0_217 : Index := 0#32
  let c0_i32_57 : BitVec 32 := 0#32
  let arg2 : BitVec 32 := BitVec.ofNat 32 (i 2).val
  let v120 : BitVec 32 := Scalar.subi arg2 c0_i32_57
  let c1_i32_58 : BitVec 32 := 1#32
  let v122 : BitVec 32 := Scalar.divsi v120 c1_i32_58
  let v123 : BitVec 32 := Scalar.muli v122 c1_i32_58
  let v124 : BitVec 32 := Scalar.addi c0_i32_57 v123
  let c1_i32_60 : BitVec 32 := 1#32
  let arg11 : BitVec 32 := Scf.iv v124 c1_i32_60 k0_t10
  let c256_i32_216 : BitVec 32 := 256#32
  let v433 : BitVec 32 := Scalar.muli arg11 c256_i32_216
  let v434 : Index := Scalar.indexCast v433
  let c0_218 : Index := 0#32
  ![0, v434.toNat, 0]
def k0_off26 (i : grid0.Coords) (k0_t10 : Fin (k0_t10_loop i).trips) : Fin 2 → Nat :=
  let c0_i32_57 : BitVec 32 := 0#32
  let arg2 : BitVec 32 := BitVec.ofNat 32 (i 2).val
  let v120 : BitVec 32 := Scalar.subi arg2 c0_i32_57
  let c1_i32_58 : BitVec 32 := 1#32
  let v122 : BitVec 32 := Scalar.divsi v120 c1_i32_58
  let v123 : BitVec 32 := Scalar.muli v122 c1_i32_58
  let v124 : BitVec 32 := Scalar.addi c0_i32_57 v123
  let c1_i32_60 : BitVec 32 := 1#32
  let arg11 : BitVec 32 := Scf.iv v124 c1_i32_60 k0_t10
  let c256_i32_221 : BitVec 32 := 256#32
  let v444 : BitVec 32 := Scalar.muli arg11 c256_i32_221
  let v445 : Index := Scalar.indexCast v444
  let c0_222 : Index := 0#32
  ![v445.toNat, 0]
@[reducible] def k0_t11_loop (i : grid0.Coords) : Scf.Loop 32 :=
  let c0_i32_74 : BitVec 32 := 0#32
  let arg2 : BitVec 32 := BitVec.ofNat 32 (i 2).val
  let c1_i32_72 : BitVec 32 := 1#32
  let v152 : BitVec 32 := Scalar.addi arg2 c1_i32_72
  let v154 : BitVec 32 := Scalar.subi v152 c0_i32_74
  let c1_i32_75 : BitVec 32 := 1#32
  let v156 : BitVec 32 := Scalar.divsi v154 c1_i32_75
  let v157 : BitVec 32 := Scalar.muli v156 c1_i32_75
  let v158 : BitVec 32 := Scalar.addi c0_i32_74 v157
  let c1_i32_76 : BitVec 32 := 1#32
  ⟨c0_i32_74, v158, c1_i32_76⟩
def k0_off27 (i : grid0.Coords) (k0_t11 : Fin (k0_t11_loop i).trips) : Fin 2 → Nat :=
  let c0_i32_74 : BitVec 32 := 0#32
  let c1_i32_76 : BitVec 32 := 1#32
  let arg11 : BitVec 32 := Scf.iv c0_i32_74 c1_i32_76 k0_t11
  let c256_i32_216 : BitVec 32 := 256#32
  let v433 : BitVec 32 := Scalar.muli arg11 c256_i32_216
  let v434 : Index := Scalar.indexCast v433
  let c0_217 : Index := 0#32
  ![v434.toNat, 0]
def k0_mult5 (i : grid0.Coords) (k0_t11 : Fin (k0_t11_loop i).trips) : BitVec 32 :=
  let c0_i32_74 : BitVec 32 := 0#32
  let c1_i32_76 : BitVec 32 := 1#32
  let arg11 : BitVec 32 := Scf.iv c0_i32_74 c1_i32_76 k0_t11
  let c256_i32_220 : BitVec 32 := 256#32
  let v443 : BitVec 32 := Scalar.muli arg11 c256_i32_220
  v443
def k0_off28 (i : grid0.Coords) (k0_t11 : Fin (k0_t11_loop i).trips) : Fin 2 → Nat :=
  let c0_221 : Index := 0#32
  let c0_i32_74 : BitVec 32 := 0#32
  let c1_i32_76 : BitVec 32 := 1#32
  let arg11 : BitVec 32 := Scf.iv c0_i32_74 c1_i32_76 k0_t11
  let c256_i32_220 : BitVec 32 := 256#32
  let v443 : BitVec 32 := Scalar.muli arg11 c256_i32_220
  let v444 : BitVec 32 := v443
  let v445 : Index := Scalar.indexCast v444
  ![0, v445.toNat]
@[reducible] def k0_t12_loop (i : grid0.Coords) : Scf.Loop 32 :=
  let c0_i32_74 : BitVec 32 := 0#32
  let arg2 : BitVec 32 := BitVec.ofNat 32 (i 2).val
  let c1_i32_72 : BitVec 32 := 1#32
  let v152 : BitVec 32 := Scalar.addi arg2 c1_i32_72
  let v154 : BitVec 32 := Scalar.subi v152 c0_i32_74
  let c1_i32_75 : BitVec 32 := 1#32
  let v156 : BitVec 32 := Scalar.divsi v154 c1_i32_75
  let v157 : BitVec 32 := Scalar.muli v156 c1_i32_75
  let v158 : BitVec 32 := Scalar.addi c0_i32_74 v157
  let v155 : BitVec 32 := Scalar.addi c0_i32_74 v154
  let c1_i32_77 : BitVec 32 := 1#32
  ⟨v158, v155, c1_i32_77⟩
def k0_off29 (i : grid0.Coords) (k0_t12 : Fin (k0_t12_loop i).trips) : Fin 2 → Nat :=
  let c0_i32_74 : BitVec 32 := 0#32
  let arg2 : BitVec 32 := BitVec.ofNat 32 (i 2).val
  let c1_i32_72 : BitVec 32 := 1#32
  let v152 : BitVec 32 := Scalar.addi arg2 c1_i32_72
  let v154 : BitVec 32 := Scalar.subi v152 c0_i32_74
  let c1_i32_75 : BitVec 32 := 1#32
  let v156 : BitVec 32 := Scalar.divsi v154 c1_i32_75
  let v157 : BitVec 32 := Scalar.muli v156 c1_i32_75
  let v158 : BitVec 32 := Scalar.addi c0_i32_74 v157
  let c1_i32_77 : BitVec 32 := 1#32
  let arg11 : BitVec 32 := Scf.iv v158 c1_i32_77 k0_t12
  let c256_i32_216 : BitVec 32 := 256#32
  let v433 : BitVec 32 := Scalar.muli arg11 c256_i32_216
  let v434 : Index := Scalar.indexCast v433
  let c0_217 : Index := 0#32
  ![v434.toNat, 0]
def k0_mult6 (i : grid0.Coords) (k0_t12 : Fin (k0_t12_loop i).trips) : BitVec 32 :=
  let c0_i32_74 : BitVec 32 := 0#32
  let arg2 : BitVec 32 := BitVec.ofNat 32 (i 2).val
  let c1_i32_72 : BitVec 32 := 1#32
  let v152 : BitVec 32 := Scalar.addi arg2 c1_i32_72
  let v154 : BitVec 32 := Scalar.subi v152 c0_i32_74
  let c1_i32_75 : BitVec 32 := 1#32
  let v156 : BitVec 32 := Scalar.divsi v154 c1_i32_75
  let v157 : BitVec 32 := Scalar.muli v156 c1_i32_75
  let v158 : BitVec 32 := Scalar.addi c0_i32_74 v157
  let c1_i32_77 : BitVec 32 := 1#32
  let arg11 : BitVec 32 := Scf.iv v158 c1_i32_77 k0_t12
  let c256_i32_220 : BitVec 32 := 256#32
  let v443 : BitVec 32 := Scalar.muli arg11 c256_i32_220
  v443
def k0_off30 (i : grid0.Coords) (k0_t12 : Fin (k0_t12_loop i).trips) : Fin 2 → Nat :=
  let c0_221 : Index := 0#32
  let c0_i32_74 : BitVec 32 := 0#32
  let arg2 : BitVec 32 := BitVec.ofNat 32 (i 2).val
  let c1_i32_72 : BitVec 32 := 1#32
  let v152 : BitVec 32 := Scalar.addi arg2 c1_i32_72
  let v154 : BitVec 32 := Scalar.subi v152 c0_i32_74
  let c1_i32_75 : BitVec 32 := 1#32
  let v156 : BitVec 32 := Scalar.divsi v154 c1_i32_75
  let v157 : BitVec 32 := Scalar.muli v156 c1_i32_75
  let v158 : BitVec 32 := Scalar.addi c0_i32_74 v157
  let c1_i32_77 : BitVec 32 := 1#32
  let arg11 : BitVec 32 := Scf.iv v158 c1_i32_77 k0_t12
  let c256_i32_220 : BitVec 32 := 256#32
  let v443 : BitVec 32 := Scalar.muli arg11 c256_i32_220
  let v444 : BitVec 32 := v443
  let v445 : Index := Scalar.indexCast v444
  ![0, v445.toNat]
def k0_off31 (i : grid0.Coords) : Fin 2 → Nat :=
  let arg1 : BitVec 32 := BitVec.ofNat 32 (i 1).val
  let v170 : Index := Scalar.indexCast arg1
  let c3 : Index := 3#32
  ![v170.toNat, 3]
@[reducible] def k0_t13_loop (i : grid0.Coords) : Scf.Loop 32 :=
  let c0_i32_84 : BitVec 32 := 0#32
  let arg2 : BitVec 32 := BitVec.ofNat 32 (i 2).val
  let v173 : BitVec 32 := Scalar.subi arg2 c0_i32_84
  let c1_i32_85 : BitVec 32 := 1#32
  let v175 : BitVec 32 := Scalar.divsi v173 c1_i32_85
  let v176 : BitVec 32 := Scalar.muli v175 c1_i32_85
  let v177 : BitVec 32 := Scalar.addi c0_i32_84 v176
  let c1_i32_86 : BitVec 32 := 1#32
  ⟨c0_i32_84, v177, c1_i32_86⟩
def k0_off32 (i : grid0.Coords) (k0_t13 : Fin (k0_t13_loop i).trips) : Fin 3 → Nat :=
  let c0_217 : Index := 0#32
  let c0_i32_84 : BitVec 32 := 0#32
  let c1_i32_86 : BitVec 32 := 1#32
  let arg11 : BitVec 32 := Scf.iv c0_i32_84 c1_i32_86 k0_t13
  let c256_i32_216 : BitVec 32 := 256#32
  let v433 : BitVec 32 := Scalar.muli arg11 c256_i32_216
  let v434 : Index := Scalar.indexCast v433
  let c0_218 : Index := 0#32
  ![0, v434.toNat, 0]
def k0_off33 (i : grid0.Coords) (k0_t13 : Fin (k0_t13_loop i).trips) : Fin 2 → Nat :=
  let c0_i32_84 : BitVec 32 := 0#32
  let c1_i32_86 : BitVec 32 := 1#32
  let arg11 : BitVec 32 := Scf.iv c0_i32_84 c1_i32_86 k0_t13
  let c256_i32_221 : BitVec 32 := 256#32
  let v444 : BitVec 32 := Scalar.muli arg11 c256_i32_221
  let v445 : Index := Scalar.indexCast v444
  let c0_222 : Index := 0#32
  ![v445.toNat, 0]
@[reducible] def k0_t14_loop (i : grid0.Coords) : Scf.Loop 32 :=
  let c0_i32_84 : BitVec 32 := 0#32
  let arg2 : BitVec 32 := BitVec.ofNat 32 (i 2).val
  let v173 : BitVec 32 := Scalar.subi arg2 c0_i32_84
  let c1_i32_85 : BitVec 32 := 1#32
  let v175 : BitVec 32 := Scalar.divsi v173 c1_i32_85
  let v176 : BitVec 32 := Scalar.muli v175 c1_i32_85
  let v177 : BitVec 32 := Scalar.addi c0_i32_84 v176
  let v174 : BitVec 32 := Scalar.addi c0_i32_84 v173
  let c1_i32_87 : BitVec 32 := 1#32
  ⟨v177, v174, c1_i32_87⟩
def k0_off34 (i : grid0.Coords) (k0_t14 : Fin (k0_t14_loop i).trips) : Fin 3 → Nat :=
  let c0_217 : Index := 0#32
  let c0_i32_84 : BitVec 32 := 0#32
  let arg2 : BitVec 32 := BitVec.ofNat 32 (i 2).val
  let v173 : BitVec 32 := Scalar.subi arg2 c0_i32_84
  let c1_i32_85 : BitVec 32 := 1#32
  let v175 : BitVec 32 := Scalar.divsi v173 c1_i32_85
  let v176 : BitVec 32 := Scalar.muli v175 c1_i32_85
  let v177 : BitVec 32 := Scalar.addi c0_i32_84 v176
  let c1_i32_87 : BitVec 32 := 1#32
  let arg11 : BitVec 32 := Scf.iv v177 c1_i32_87 k0_t14
  let c256_i32_216 : BitVec 32 := 256#32
  let v433 : BitVec 32 := Scalar.muli arg11 c256_i32_216
  let v434 : Index := Scalar.indexCast v433
  let c0_218 : Index := 0#32
  ![0, v434.toNat, 0]
def k0_off35 (i : grid0.Coords) (k0_t14 : Fin (k0_t14_loop i).trips) : Fin 2 → Nat :=
  let c0_i32_84 : BitVec 32 := 0#32
  let arg2 : BitVec 32 := BitVec.ofNat 32 (i 2).val
  let v173 : BitVec 32 := Scalar.subi arg2 c0_i32_84
  let c1_i32_85 : BitVec 32 := 1#32
  let v175 : BitVec 32 := Scalar.divsi v173 c1_i32_85
  let v176 : BitVec 32 := Scalar.muli v175 c1_i32_85
  let v177 : BitVec 32 := Scalar.addi c0_i32_84 v176
  let c1_i32_87 : BitVec 32 := 1#32
  let arg11 : BitVec 32 := Scf.iv v177 c1_i32_87 k0_t14
  let c256_i32_221 : BitVec 32 := 256#32
  let v444 : BitVec 32 := Scalar.muli arg11 c256_i32_221
  let v445 : Index := Scalar.indexCast v444
  let c0_222 : Index := 0#32
  ![v445.toNat, 0]
@[reducible] def k0_t15_loop (i : grid0.Coords) : Scf.Loop 32 :=
  let c0_i32_101 : BitVec 32 := 0#32
  let arg2 : BitVec 32 := BitVec.ofNat 32 (i 2).val
  let c1_i32_99 : BitVec 32 := 1#32
  let v205 : BitVec 32 := Scalar.addi arg2 c1_i32_99
  let v207 : BitVec 32 := Scalar.subi v205 c0_i32_101
  let c1_i32_102 : BitVec 32 := 1#32
  let v209 : BitVec 32 := Scalar.divsi v207 c1_i32_102
  let v210 : BitVec 32 := Scalar.muli v209 c1_i32_102
  let v211 : BitVec 32 := Scalar.addi c0_i32_101 v210
  let c1_i32_103 : BitVec 32 := 1#32
  ⟨c0_i32_101, v211, c1_i32_103⟩
def k0_off36 (i : grid0.Coords) (k0_t15 : Fin (k0_t15_loop i).trips) : Fin 2 → Nat :=
  let c0_i32_101 : BitVec 32 := 0#32
  let c1_i32_103 : BitVec 32 := 1#32
  let arg11 : BitVec 32 := Scf.iv c0_i32_101 c1_i32_103 k0_t15
  let c256_i32_216 : BitVec 32 := 256#32
  let v433 : BitVec 32 := Scalar.muli arg11 c256_i32_216
  let v434 : Index := Scalar.indexCast v433
  let c0_217 : Index := 0#32
  ![v434.toNat, 0]
def k0_mult7 (i : grid0.Coords) (k0_t15 : Fin (k0_t15_loop i).trips) : BitVec 32 :=
  let c0_i32_101 : BitVec 32 := 0#32
  let c1_i32_103 : BitVec 32 := 1#32
  let arg11 : BitVec 32 := Scf.iv c0_i32_101 c1_i32_103 k0_t15
  let c256_i32_220 : BitVec 32 := 256#32
  let v443 : BitVec 32 := Scalar.muli arg11 c256_i32_220
  v443
def k0_off37 (i : grid0.Coords) (k0_t15 : Fin (k0_t15_loop i).trips) : Fin 2 → Nat :=
  let c0_221 : Index := 0#32
  let c0_i32_101 : BitVec 32 := 0#32
  let c1_i32_103 : BitVec 32 := 1#32
  let arg11 : BitVec 32 := Scf.iv c0_i32_101 c1_i32_103 k0_t15
  let c256_i32_220 : BitVec 32 := 256#32
  let v443 : BitVec 32 := Scalar.muli arg11 c256_i32_220
  let v444 : BitVec 32 := v443
  let v445 : Index := Scalar.indexCast v444
  ![0, v445.toNat]
@[reducible] def k0_t16_loop (i : grid0.Coords) : Scf.Loop 32 :=
  let c0_i32_101 : BitVec 32 := 0#32
  let arg2 : BitVec 32 := BitVec.ofNat 32 (i 2).val
  let c1_i32_99 : BitVec 32 := 1#32
  let v205 : BitVec 32 := Scalar.addi arg2 c1_i32_99
  let v207 : BitVec 32 := Scalar.subi v205 c0_i32_101
  let c1_i32_102 : BitVec 32 := 1#32
  let v209 : BitVec 32 := Scalar.divsi v207 c1_i32_102
  let v210 : BitVec 32 := Scalar.muli v209 c1_i32_102
  let v211 : BitVec 32 := Scalar.addi c0_i32_101 v210
  let v208 : BitVec 32 := Scalar.addi c0_i32_101 v207
  let c1_i32_104 : BitVec 32 := 1#32
  ⟨v211, v208, c1_i32_104⟩
def k0_off38 (i : grid0.Coords) (k0_t16 : Fin (k0_t16_loop i).trips) : Fin 2 → Nat :=
  let c0_i32_101 : BitVec 32 := 0#32
  let arg2 : BitVec 32 := BitVec.ofNat 32 (i 2).val
  let c1_i32_99 : BitVec 32 := 1#32
  let v205 : BitVec 32 := Scalar.addi arg2 c1_i32_99
  let v207 : BitVec 32 := Scalar.subi v205 c0_i32_101
  let c1_i32_102 : BitVec 32 := 1#32
  let v209 : BitVec 32 := Scalar.divsi v207 c1_i32_102
  let v210 : BitVec 32 := Scalar.muli v209 c1_i32_102
  let v211 : BitVec 32 := Scalar.addi c0_i32_101 v210
  let c1_i32_104 : BitVec 32 := 1#32
  let arg11 : BitVec 32 := Scf.iv v211 c1_i32_104 k0_t16
  let c256_i32_216 : BitVec 32 := 256#32
  let v433 : BitVec 32 := Scalar.muli arg11 c256_i32_216
  let v434 : Index := Scalar.indexCast v433
  let c0_217 : Index := 0#32
  ![v434.toNat, 0]
def k0_mult8 (i : grid0.Coords) (k0_t16 : Fin (k0_t16_loop i).trips) : BitVec 32 :=
  let c0_i32_101 : BitVec 32 := 0#32
  let arg2 : BitVec 32 := BitVec.ofNat 32 (i 2).val
  let c1_i32_99 : BitVec 32 := 1#32
  let v205 : BitVec 32 := Scalar.addi arg2 c1_i32_99
  let v207 : BitVec 32 := Scalar.subi v205 c0_i32_101
  let c1_i32_102 : BitVec 32 := 1#32
  let v209 : BitVec 32 := Scalar.divsi v207 c1_i32_102
  let v210 : BitVec 32 := Scalar.muli v209 c1_i32_102
  let v211 : BitVec 32 := Scalar.addi c0_i32_101 v210
  let c1_i32_104 : BitVec 32 := 1#32
  let arg11 : BitVec 32 := Scf.iv v211 c1_i32_104 k0_t16
  let c256_i32_220 : BitVec 32 := 256#32
  let v443 : BitVec 32 := Scalar.muli arg11 c256_i32_220
  v443
def k0_off39 (i : grid0.Coords) (k0_t16 : Fin (k0_t16_loop i).trips) : Fin 2 → Nat :=
  let c0_221 : Index := 0#32
  let c0_i32_101 : BitVec 32 := 0#32
  let arg2 : BitVec 32 := BitVec.ofNat 32 (i 2).val
  let c1_i32_99 : BitVec 32 := 1#32
  let v205 : BitVec 32 := Scalar.addi arg2 c1_i32_99
  let v207 : BitVec 32 := Scalar.subi v205 c0_i32_101
  let c1_i32_102 : BitVec 32 := 1#32
  let v209 : BitVec 32 := Scalar.divsi v207 c1_i32_102
  let v210 : BitVec 32 := Scalar.muli v209 c1_i32_102
  let v211 : BitVec 32 := Scalar.addi c0_i32_101 v210
  let c1_i32_104 : BitVec 32 := 1#32
  let arg11 : BitVec 32 := Scf.iv v211 c1_i32_104 k0_t16
  let c256_i32_220 : BitVec 32 := 256#32
  let v443 : BitVec 32 := Scalar.muli arg11 c256_i32_220
  let v444 : BitVec 32 := v443
  let v445 : Index := Scalar.indexCast v444
  ![0, v445.toNat]
def k0_off40 (i : grid0.Coords) : Fin 2 → Nat :=
  let arg1 : BitVec 32 := BitVec.ofNat 32 (i 1).val
  let v223 : Index := Scalar.indexCast arg1
  let c4 : Index := 4#32
  ![v223.toNat, 4]
@[reducible] def k0_t17_loop (i : grid0.Coords) : Scf.Loop 32 :=
  let c0_i32_111 : BitVec 32 := 0#32
  let arg2 : BitVec 32 := BitVec.ofNat 32 (i 2).val
  let v226 : BitVec 32 := Scalar.subi arg2 c0_i32_111
  let c1_i32_112 : BitVec 32 := 1#32
  let v228 : BitVec 32 := Scalar.divsi v226 c1_i32_112
  let v229 : BitVec 32 := Scalar.muli v228 c1_i32_112
  let v230 : BitVec 32 := Scalar.addi c0_i32_111 v229
  let c1_i32_113 : BitVec 32 := 1#32
  ⟨c0_i32_111, v230, c1_i32_113⟩
def k0_off41 (i : grid0.Coords) (k0_t17 : Fin (k0_t17_loop i).trips) : Fin 3 → Nat :=
  let c0_217 : Index := 0#32
  let c0_i32_111 : BitVec 32 := 0#32
  let c1_i32_113 : BitVec 32 := 1#32
  let arg11 : BitVec 32 := Scf.iv c0_i32_111 c1_i32_113 k0_t17
  let c256_i32_216 : BitVec 32 := 256#32
  let v433 : BitVec 32 := Scalar.muli arg11 c256_i32_216
  let v434 : Index := Scalar.indexCast v433
  let c0_218 : Index := 0#32
  ![0, v434.toNat, 0]
def k0_off42 (i : grid0.Coords) (k0_t17 : Fin (k0_t17_loop i).trips) : Fin 2 → Nat :=
  let c0_i32_111 : BitVec 32 := 0#32
  let c1_i32_113 : BitVec 32 := 1#32
  let arg11 : BitVec 32 := Scf.iv c0_i32_111 c1_i32_113 k0_t17
  let c256_i32_221 : BitVec 32 := 256#32
  let v444 : BitVec 32 := Scalar.muli arg11 c256_i32_221
  let v445 : Index := Scalar.indexCast v444
  let c0_222 : Index := 0#32
  ![v445.toNat, 0]
@[reducible] def k0_t18_loop (i : grid0.Coords) : Scf.Loop 32 :=
  let c0_i32_111 : BitVec 32 := 0#32
  let arg2 : BitVec 32 := BitVec.ofNat 32 (i 2).val
  let v226 : BitVec 32 := Scalar.subi arg2 c0_i32_111
  let c1_i32_112 : BitVec 32 := 1#32
  let v228 : BitVec 32 := Scalar.divsi v226 c1_i32_112
  let v229 : BitVec 32 := Scalar.muli v228 c1_i32_112
  let v230 : BitVec 32 := Scalar.addi c0_i32_111 v229
  let v227 : BitVec 32 := Scalar.addi c0_i32_111 v226
  let c1_i32_114 : BitVec 32 := 1#32
  ⟨v230, v227, c1_i32_114⟩
def k0_off43 (i : grid0.Coords) (k0_t18 : Fin (k0_t18_loop i).trips) : Fin 3 → Nat :=
  let c0_217 : Index := 0#32
  let c0_i32_111 : BitVec 32 := 0#32
  let arg2 : BitVec 32 := BitVec.ofNat 32 (i 2).val
  let v226 : BitVec 32 := Scalar.subi arg2 c0_i32_111
  let c1_i32_112 : BitVec 32 := 1#32
  let v228 : BitVec 32 := Scalar.divsi v226 c1_i32_112
  let v229 : BitVec 32 := Scalar.muli v228 c1_i32_112
  let v230 : BitVec 32 := Scalar.addi c0_i32_111 v229
  let c1_i32_114 : BitVec 32 := 1#32
  let arg11 : BitVec 32 := Scf.iv v230 c1_i32_114 k0_t18
  let c256_i32_216 : BitVec 32 := 256#32
  let v433 : BitVec 32 := Scalar.muli arg11 c256_i32_216
  let v434 : Index := Scalar.indexCast v433
  let c0_218 : Index := 0#32
  ![0, v434.toNat, 0]
def k0_off44 (i : grid0.Coords) (k0_t18 : Fin (k0_t18_loop i).trips) : Fin 2 → Nat :=
  let c0_i32_111 : BitVec 32 := 0#32
  let arg2 : BitVec 32 := BitVec.ofNat 32 (i 2).val
  let v226 : BitVec 32 := Scalar.subi arg2 c0_i32_111
  let c1_i32_112 : BitVec 32 := 1#32
  let v228 : BitVec 32 := Scalar.divsi v226 c1_i32_112
  let v229 : BitVec 32 := Scalar.muli v228 c1_i32_112
  let v230 : BitVec 32 := Scalar.addi c0_i32_111 v229
  let c1_i32_114 : BitVec 32 := 1#32
  let arg11 : BitVec 32 := Scf.iv v230 c1_i32_114 k0_t18
  let c256_i32_221 : BitVec 32 := 256#32
  let v444 : BitVec 32 := Scalar.muli arg11 c256_i32_221
  let v445 : Index := Scalar.indexCast v444
  let c0_222 : Index := 0#32
  ![v445.toNat, 0]
@[reducible] def k0_t19_loop (i : grid0.Coords) : Scf.Loop 32 :=
  let c0_i32_128 : BitVec 32 := 0#32
  let arg2 : BitVec 32 := BitVec.ofNat 32 (i 2).val
  let c1_i32_126 : BitVec 32 := 1#32
  let v258 : BitVec 32 := Scalar.addi arg2 c1_i32_126
  let v260 : BitVec 32 := Scalar.subi v258 c0_i32_128
  let c1_i32_129 : BitVec 32 := 1#32
  let v262 : BitVec 32 := Scalar.divsi v260 c1_i32_129
  let v263 : BitVec 32 := Scalar.muli v262 c1_i32_129
  let v264 : BitVec 32 := Scalar.addi c0_i32_128 v263
  let c1_i32_130 : BitVec 32 := 1#32
  ⟨c0_i32_128, v264, c1_i32_130⟩
def k0_off45 (i : grid0.Coords) (k0_t19 : Fin (k0_t19_loop i).trips) : Fin 2 → Nat :=
  let c0_i32_128 : BitVec 32 := 0#32
  let c1_i32_130 : BitVec 32 := 1#32
  let arg11 : BitVec 32 := Scf.iv c0_i32_128 c1_i32_130 k0_t19
  let c256_i32_216 : BitVec 32 := 256#32
  let v433 : BitVec 32 := Scalar.muli arg11 c256_i32_216
  let v434 : Index := Scalar.indexCast v433
  let c0_217 : Index := 0#32
  ![v434.toNat, 0]
def k0_mult9 (i : grid0.Coords) (k0_t19 : Fin (k0_t19_loop i).trips) : BitVec 32 :=
  let c0_i32_128 : BitVec 32 := 0#32
  let c1_i32_130 : BitVec 32 := 1#32
  let arg11 : BitVec 32 := Scf.iv c0_i32_128 c1_i32_130 k0_t19
  let c256_i32_220 : BitVec 32 := 256#32
  let v443 : BitVec 32 := Scalar.muli arg11 c256_i32_220
  v443
def k0_off46 (i : grid0.Coords) (k0_t19 : Fin (k0_t19_loop i).trips) : Fin 2 → Nat :=
  let c0_221 : Index := 0#32
  let c0_i32_128 : BitVec 32 := 0#32
  let c1_i32_130 : BitVec 32 := 1#32
  let arg11 : BitVec 32 := Scf.iv c0_i32_128 c1_i32_130 k0_t19
  let c256_i32_220 : BitVec 32 := 256#32
  let v443 : BitVec 32 := Scalar.muli arg11 c256_i32_220
  let v444 : BitVec 32 := v443
  let v445 : Index := Scalar.indexCast v444
  ![0, v445.toNat]
@[reducible] def k0_t20_loop (i : grid0.Coords) : Scf.Loop 32 :=
  let c0_i32_128 : BitVec 32 := 0#32
  let arg2 : BitVec 32 := BitVec.ofNat 32 (i 2).val
  let c1_i32_126 : BitVec 32 := 1#32
  let v258 : BitVec 32 := Scalar.addi arg2 c1_i32_126
  let v260 : BitVec 32 := Scalar.subi v258 c0_i32_128
  let c1_i32_129 : BitVec 32 := 1#32
  let v262 : BitVec 32 := Scalar.divsi v260 c1_i32_129
  let v263 : BitVec 32 := Scalar.muli v262 c1_i32_129
  let v264 : BitVec 32 := Scalar.addi c0_i32_128 v263
  let v261 : BitVec 32 := Scalar.addi c0_i32_128 v260
  let c1_i32_131 : BitVec 32 := 1#32
  ⟨v264, v261, c1_i32_131⟩
def k0_off47 (i : grid0.Coords) (k0_t20 : Fin (k0_t20_loop i).trips) : Fin 2 → Nat :=
  let c0_i32_128 : BitVec 32 := 0#32
  let arg2 : BitVec 32 := BitVec.ofNat 32 (i 2).val
  let c1_i32_126 : BitVec 32 := 1#32
  let v258 : BitVec 32 := Scalar.addi arg2 c1_i32_126
  let v260 : BitVec 32 := Scalar.subi v258 c0_i32_128
  let c1_i32_129 : BitVec 32 := 1#32
  let v262 : BitVec 32 := Scalar.divsi v260 c1_i32_129
  let v263 : BitVec 32 := Scalar.muli v262 c1_i32_129
  let v264 : BitVec 32 := Scalar.addi c0_i32_128 v263
  let c1_i32_131 : BitVec 32 := 1#32
  let arg11 : BitVec 32 := Scf.iv v264 c1_i32_131 k0_t20
  let c256_i32_216 : BitVec 32 := 256#32
  let v433 : BitVec 32 := Scalar.muli arg11 c256_i32_216
  let v434 : Index := Scalar.indexCast v433
  let c0_217 : Index := 0#32
  ![v434.toNat, 0]
def k0_mult10 (i : grid0.Coords) (k0_t20 : Fin (k0_t20_loop i).trips) : BitVec 32 :=
  let c0_i32_128 : BitVec 32 := 0#32
  let arg2 : BitVec 32 := BitVec.ofNat 32 (i 2).val
  let c1_i32_126 : BitVec 32 := 1#32
  let v258 : BitVec 32 := Scalar.addi arg2 c1_i32_126
  let v260 : BitVec 32 := Scalar.subi v258 c0_i32_128
  let c1_i32_129 : BitVec 32 := 1#32
  let v262 : BitVec 32 := Scalar.divsi v260 c1_i32_129
  let v263 : BitVec 32 := Scalar.muli v262 c1_i32_129
  let v264 : BitVec 32 := Scalar.addi c0_i32_128 v263
  let c1_i32_131 : BitVec 32 := 1#32
  let arg11 : BitVec 32 := Scf.iv v264 c1_i32_131 k0_t20
  let c256_i32_220 : BitVec 32 := 256#32
  let v443 : BitVec 32 := Scalar.muli arg11 c256_i32_220
  v443
def k0_off48 (i : grid0.Coords) (k0_t20 : Fin (k0_t20_loop i).trips) : Fin 2 → Nat :=
  let c0_221 : Index := 0#32
  let c0_i32_128 : BitVec 32 := 0#32
  let arg2 : BitVec 32 := BitVec.ofNat 32 (i 2).val
  let c1_i32_126 : BitVec 32 := 1#32
  let v258 : BitVec 32 := Scalar.addi arg2 c1_i32_126
  let v260 : BitVec 32 := Scalar.subi v258 c0_i32_128
  let c1_i32_129 : BitVec 32 := 1#32
  let v262 : BitVec 32 := Scalar.divsi v260 c1_i32_129
  let v263 : BitVec 32 := Scalar.muli v262 c1_i32_129
  let v264 : BitVec 32 := Scalar.addi c0_i32_128 v263
  let c1_i32_131 : BitVec 32 := 1#32
  let arg11 : BitVec 32 := Scf.iv v264 c1_i32_131 k0_t20
  let c256_i32_220 : BitVec 32 := 256#32
  let v443 : BitVec 32 := Scalar.muli arg11 c256_i32_220
  let v444 : BitVec 32 := v443
  let v445 : Index := Scalar.indexCast v444
  ![0, v445.toNat]
def k0_off49 (i : grid0.Coords) : Fin 2 → Nat :=
  let arg1 : BitVec 32 := BitVec.ofNat 32 (i 1).val
  let v276 : Index := Scalar.indexCast arg1
  let c5 : Index := 5#32
  ![v276.toNat, 5]
@[reducible] def k0_t21_loop (i : grid0.Coords) : Scf.Loop 32 :=
  let c0_i32_138 : BitVec 32 := 0#32
  let arg2 : BitVec 32 := BitVec.ofNat 32 (i 2).val
  let v279 : BitVec 32 := Scalar.subi arg2 c0_i32_138
  let c1_i32_139 : BitVec 32 := 1#32
  let v281 : BitVec 32 := Scalar.divsi v279 c1_i32_139
  let v282 : BitVec 32 := Scalar.muli v281 c1_i32_139
  let v283 : BitVec 32 := Scalar.addi c0_i32_138 v282
  let c1_i32_140 : BitVec 32 := 1#32
  ⟨c0_i32_138, v283, c1_i32_140⟩
def k0_off50 (i : grid0.Coords) (k0_t21 : Fin (k0_t21_loop i).trips) : Fin 3 → Nat :=
  let c0_217 : Index := 0#32
  let c0_i32_138 : BitVec 32 := 0#32
  let c1_i32_140 : BitVec 32 := 1#32
  let arg11 : BitVec 32 := Scf.iv c0_i32_138 c1_i32_140 k0_t21
  let c256_i32_216 : BitVec 32 := 256#32
  let v433 : BitVec 32 := Scalar.muli arg11 c256_i32_216
  let v434 : Index := Scalar.indexCast v433
  let c0_218 : Index := 0#32
  ![0, v434.toNat, 0]
def k0_off51 (i : grid0.Coords) (k0_t21 : Fin (k0_t21_loop i).trips) : Fin 2 → Nat :=
  let c0_i32_138 : BitVec 32 := 0#32
  let c1_i32_140 : BitVec 32 := 1#32
  let arg11 : BitVec 32 := Scf.iv c0_i32_138 c1_i32_140 k0_t21
  let c256_i32_221 : BitVec 32 := 256#32
  let v444 : BitVec 32 := Scalar.muli arg11 c256_i32_221
  let v445 : Index := Scalar.indexCast v444
  let c0_222 : Index := 0#32
  ![v445.toNat, 0]
@[reducible] def k0_t22_loop (i : grid0.Coords) : Scf.Loop 32 :=
  let c0_i32_138 : BitVec 32 := 0#32
  let arg2 : BitVec 32 := BitVec.ofNat 32 (i 2).val
  let v279 : BitVec 32 := Scalar.subi arg2 c0_i32_138
  let c1_i32_139 : BitVec 32 := 1#32
  let v281 : BitVec 32 := Scalar.divsi v279 c1_i32_139
  let v282 : BitVec 32 := Scalar.muli v281 c1_i32_139
  let v283 : BitVec 32 := Scalar.addi c0_i32_138 v282
  let v280 : BitVec 32 := Scalar.addi c0_i32_138 v279
  let c1_i32_141 : BitVec 32 := 1#32
  ⟨v283, v280, c1_i32_141⟩
def k0_off52 (i : grid0.Coords) (k0_t22 : Fin (k0_t22_loop i).trips) : Fin 3 → Nat :=
  let c0_217 : Index := 0#32
  let c0_i32_138 : BitVec 32 := 0#32
  let arg2 : BitVec 32 := BitVec.ofNat 32 (i 2).val
  let v279 : BitVec 32 := Scalar.subi arg2 c0_i32_138
  let c1_i32_139 : BitVec 32 := 1#32
  let v281 : BitVec 32 := Scalar.divsi v279 c1_i32_139
  let v282 : BitVec 32 := Scalar.muli v281 c1_i32_139
  let v283 : BitVec 32 := Scalar.addi c0_i32_138 v282
  let c1_i32_141 : BitVec 32 := 1#32
  let arg11 : BitVec 32 := Scf.iv v283 c1_i32_141 k0_t22
  let c256_i32_216 : BitVec 32 := 256#32
  let v433 : BitVec 32 := Scalar.muli arg11 c256_i32_216
  let v434 : Index := Scalar.indexCast v433
  let c0_218 : Index := 0#32
  ![0, v434.toNat, 0]
def k0_off53 (i : grid0.Coords) (k0_t22 : Fin (k0_t22_loop i).trips) : Fin 2 → Nat :=
  let c0_i32_138 : BitVec 32 := 0#32
  let arg2 : BitVec 32 := BitVec.ofNat 32 (i 2).val
  let v279 : BitVec 32 := Scalar.subi arg2 c0_i32_138
  let c1_i32_139 : BitVec 32 := 1#32
  let v281 : BitVec 32 := Scalar.divsi v279 c1_i32_139
  let v282 : BitVec 32 := Scalar.muli v281 c1_i32_139
  let v283 : BitVec 32 := Scalar.addi c0_i32_138 v282
  let c1_i32_141 : BitVec 32 := 1#32
  let arg11 : BitVec 32 := Scf.iv v283 c1_i32_141 k0_t22
  let c256_i32_221 : BitVec 32 := 256#32
  let v444 : BitVec 32 := Scalar.muli arg11 c256_i32_221
  let v445 : Index := Scalar.indexCast v444
  let c0_222 : Index := 0#32
  ![v445.toNat, 0]
@[reducible] def k0_t23_loop (i : grid0.Coords) : Scf.Loop 32 :=
  let c0_i32_155 : BitVec 32 := 0#32
  let arg2 : BitVec 32 := BitVec.ofNat 32 (i 2).val
  let c1_i32_153 : BitVec 32 := 1#32
  let v311 : BitVec 32 := Scalar.addi arg2 c1_i32_153
  let v313 : BitVec 32 := Scalar.subi v311 c0_i32_155
  let c1_i32_156 : BitVec 32 := 1#32
  let v315 : BitVec 32 := Scalar.divsi v313 c1_i32_156
  let v316 : BitVec 32 := Scalar.muli v315 c1_i32_156
  let v317 : BitVec 32 := Scalar.addi c0_i32_155 v316
  let c1_i32_157 : BitVec 32 := 1#32
  ⟨c0_i32_155, v317, c1_i32_157⟩
def k0_off54 (i : grid0.Coords) (k0_t23 : Fin (k0_t23_loop i).trips) : Fin 2 → Nat :=
  let c0_i32_155 : BitVec 32 := 0#32
  let c1_i32_157 : BitVec 32 := 1#32
  let arg11 : BitVec 32 := Scf.iv c0_i32_155 c1_i32_157 k0_t23
  let c256_i32_216 : BitVec 32 := 256#32
  let v433 : BitVec 32 := Scalar.muli arg11 c256_i32_216
  let v434 : Index := Scalar.indexCast v433
  let c0_217 : Index := 0#32
  ![v434.toNat, 0]
def k0_mult11 (i : grid0.Coords) (k0_t23 : Fin (k0_t23_loop i).trips) : BitVec 32 :=
  let c0_i32_155 : BitVec 32 := 0#32
  let c1_i32_157 : BitVec 32 := 1#32
  let arg11 : BitVec 32 := Scf.iv c0_i32_155 c1_i32_157 k0_t23
  let c256_i32_220 : BitVec 32 := 256#32
  let v443 : BitVec 32 := Scalar.muli arg11 c256_i32_220
  v443
def k0_off55 (i : grid0.Coords) (k0_t23 : Fin (k0_t23_loop i).trips) : Fin 2 → Nat :=
  let c0_221 : Index := 0#32
  let c0_i32_155 : BitVec 32 := 0#32
  let c1_i32_157 : BitVec 32 := 1#32
  let arg11 : BitVec 32 := Scf.iv c0_i32_155 c1_i32_157 k0_t23
  let c256_i32_220 : BitVec 32 := 256#32
  let v443 : BitVec 32 := Scalar.muli arg11 c256_i32_220
  let v444 : BitVec 32 := v443
  let v445 : Index := Scalar.indexCast v444
  ![0, v445.toNat]
@[reducible] def k0_t24_loop (i : grid0.Coords) : Scf.Loop 32 :=
  let c0_i32_155 : BitVec 32 := 0#32
  let arg2 : BitVec 32 := BitVec.ofNat 32 (i 2).val
  let c1_i32_153 : BitVec 32 := 1#32
  let v311 : BitVec 32 := Scalar.addi arg2 c1_i32_153
  let v313 : BitVec 32 := Scalar.subi v311 c0_i32_155
  let c1_i32_156 : BitVec 32 := 1#32
  let v315 : BitVec 32 := Scalar.divsi v313 c1_i32_156
  let v316 : BitVec 32 := Scalar.muli v315 c1_i32_156
  let v317 : BitVec 32 := Scalar.addi c0_i32_155 v316
  let v314 : BitVec 32 := Scalar.addi c0_i32_155 v313
  let c1_i32_158 : BitVec 32 := 1#32
  ⟨v317, v314, c1_i32_158⟩
def k0_off56 (i : grid0.Coords) (k0_t24 : Fin (k0_t24_loop i).trips) : Fin 2 → Nat :=
  let c0_i32_155 : BitVec 32 := 0#32
  let arg2 : BitVec 32 := BitVec.ofNat 32 (i 2).val
  let c1_i32_153 : BitVec 32 := 1#32
  let v311 : BitVec 32 := Scalar.addi arg2 c1_i32_153
  let v313 : BitVec 32 := Scalar.subi v311 c0_i32_155
  let c1_i32_156 : BitVec 32 := 1#32
  let v315 : BitVec 32 := Scalar.divsi v313 c1_i32_156
  let v316 : BitVec 32 := Scalar.muli v315 c1_i32_156
  let v317 : BitVec 32 := Scalar.addi c0_i32_155 v316
  let c1_i32_158 : BitVec 32 := 1#32
  let arg11 : BitVec 32 := Scf.iv v317 c1_i32_158 k0_t24
  let c256_i32_216 : BitVec 32 := 256#32
  let v433 : BitVec 32 := Scalar.muli arg11 c256_i32_216
  let v434 : Index := Scalar.indexCast v433
  let c0_217 : Index := 0#32
  ![v434.toNat, 0]
def k0_mult12 (i : grid0.Coords) (k0_t24 : Fin (k0_t24_loop i).trips) : BitVec 32 :=
  let c0_i32_155 : BitVec 32 := 0#32
  let arg2 : BitVec 32 := BitVec.ofNat 32 (i 2).val
  let c1_i32_153 : BitVec 32 := 1#32
  let v311 : BitVec 32 := Scalar.addi arg2 c1_i32_153
  let v313 : BitVec 32 := Scalar.subi v311 c0_i32_155
  let c1_i32_156 : BitVec 32 := 1#32
  let v315 : BitVec 32 := Scalar.divsi v313 c1_i32_156
  let v316 : BitVec 32 := Scalar.muli v315 c1_i32_156
  let v317 : BitVec 32 := Scalar.addi c0_i32_155 v316
  let c1_i32_158 : BitVec 32 := 1#32
  let arg11 : BitVec 32 := Scf.iv v317 c1_i32_158 k0_t24
  let c256_i32_220 : BitVec 32 := 256#32
  let v443 : BitVec 32 := Scalar.muli arg11 c256_i32_220
  v443
def k0_off57 (i : grid0.Coords) (k0_t24 : Fin (k0_t24_loop i).trips) : Fin 2 → Nat :=
  let c0_221 : Index := 0#32
  let c0_i32_155 : BitVec 32 := 0#32
  let arg2 : BitVec 32 := BitVec.ofNat 32 (i 2).val
  let c1_i32_153 : BitVec 32 := 1#32
  let v311 : BitVec 32 := Scalar.addi arg2 c1_i32_153
  let v313 : BitVec 32 := Scalar.subi v311 c0_i32_155
  let c1_i32_156 : BitVec 32 := 1#32
  let v315 : BitVec 32 := Scalar.divsi v313 c1_i32_156
  let v316 : BitVec 32 := Scalar.muli v315 c1_i32_156
  let v317 : BitVec 32 := Scalar.addi c0_i32_155 v316
  let c1_i32_158 : BitVec 32 := 1#32
  let arg11 : BitVec 32 := Scf.iv v317 c1_i32_158 k0_t24
  let c256_i32_220 : BitVec 32 := 256#32
  let v443 : BitVec 32 := Scalar.muli arg11 c256_i32_220
  let v444 : BitVec 32 := v443
  let v445 : Index := Scalar.indexCast v444
  ![0, v445.toNat]
def k0_off58 (i : grid0.Coords) : Fin 2 → Nat :=
  let arg1 : BitVec 32 := BitVec.ofNat 32 (i 1).val
  let v329 : Index := Scalar.indexCast arg1
  let c6 : Index := 6#32
  ![v329.toNat, 6]
@[reducible] def k0_t25_loop (i : grid0.Coords) : Scf.Loop 32 :=
  let c0_i32_165 : BitVec 32 := 0#32
  let arg2 : BitVec 32 := BitVec.ofNat 32 (i 2).val
  let v332 : BitVec 32 := Scalar.subi arg2 c0_i32_165
  let c1_i32_166 : BitVec 32 := 1#32
  let v334 : BitVec 32 := Scalar.divsi v332 c1_i32_166
  let v335 : BitVec 32 := Scalar.muli v334 c1_i32_166
  let v336 : BitVec 32 := Scalar.addi c0_i32_165 v335
  let c1_i32_167 : BitVec 32 := 1#32
  ⟨c0_i32_165, v336, c1_i32_167⟩
def k0_off59 (i : grid0.Coords) (k0_t25 : Fin (k0_t25_loop i).trips) : Fin 3 → Nat :=
  let c0_217 : Index := 0#32
  let c0_i32_165 : BitVec 32 := 0#32
  let c1_i32_167 : BitVec 32 := 1#32
  let arg11 : BitVec 32 := Scf.iv c0_i32_165 c1_i32_167 k0_t25
  let c256_i32_216 : BitVec 32 := 256#32
  let v433 : BitVec 32 := Scalar.muli arg11 c256_i32_216
  let v434 : Index := Scalar.indexCast v433
  let c0_218 : Index := 0#32
  ![0, v434.toNat, 0]
def k0_off60 (i : grid0.Coords) (k0_t25 : Fin (k0_t25_loop i).trips) : Fin 2 → Nat :=
  let c0_i32_165 : BitVec 32 := 0#32
  let c1_i32_167 : BitVec 32 := 1#32
  let arg11 : BitVec 32 := Scf.iv c0_i32_165 c1_i32_167 k0_t25
  let c256_i32_221 : BitVec 32 := 256#32
  let v444 : BitVec 32 := Scalar.muli arg11 c256_i32_221
  let v445 : Index := Scalar.indexCast v444
  let c0_222 : Index := 0#32
  ![v445.toNat, 0]
@[reducible] def k0_t26_loop (i : grid0.Coords) : Scf.Loop 32 :=
  let c0_i32_165 : BitVec 32 := 0#32
  let arg2 : BitVec 32 := BitVec.ofNat 32 (i 2).val
  let v332 : BitVec 32 := Scalar.subi arg2 c0_i32_165
  let c1_i32_166 : BitVec 32 := 1#32
  let v334 : BitVec 32 := Scalar.divsi v332 c1_i32_166
  let v335 : BitVec 32 := Scalar.muli v334 c1_i32_166
  let v336 : BitVec 32 := Scalar.addi c0_i32_165 v335
  let v333 : BitVec 32 := Scalar.addi c0_i32_165 v332
  let c1_i32_168 : BitVec 32 := 1#32
  ⟨v336, v333, c1_i32_168⟩
def k0_off61 (i : grid0.Coords) (k0_t26 : Fin (k0_t26_loop i).trips) : Fin 3 → Nat :=
  let c0_217 : Index := 0#32
  let c0_i32_165 : BitVec 32 := 0#32
  let arg2 : BitVec 32 := BitVec.ofNat 32 (i 2).val
  let v332 : BitVec 32 := Scalar.subi arg2 c0_i32_165
  let c1_i32_166 : BitVec 32 := 1#32
  let v334 : BitVec 32 := Scalar.divsi v332 c1_i32_166
  let v335 : BitVec 32 := Scalar.muli v334 c1_i32_166
  let v336 : BitVec 32 := Scalar.addi c0_i32_165 v335
  let c1_i32_168 : BitVec 32 := 1#32
  let arg11 : BitVec 32 := Scf.iv v336 c1_i32_168 k0_t26
  let c256_i32_216 : BitVec 32 := 256#32
  let v433 : BitVec 32 := Scalar.muli arg11 c256_i32_216
  let v434 : Index := Scalar.indexCast v433
  let c0_218 : Index := 0#32
  ![0, v434.toNat, 0]
def k0_off62 (i : grid0.Coords) (k0_t26 : Fin (k0_t26_loop i).trips) : Fin 2 → Nat :=
  let c0_i32_165 : BitVec 32 := 0#32
  let arg2 : BitVec 32 := BitVec.ofNat 32 (i 2).val
  let v332 : BitVec 32 := Scalar.subi arg2 c0_i32_165
  let c1_i32_166 : BitVec 32 := 1#32
  let v334 : BitVec 32 := Scalar.divsi v332 c1_i32_166
  let v335 : BitVec 32 := Scalar.muli v334 c1_i32_166
  let v336 : BitVec 32 := Scalar.addi c0_i32_165 v335
  let c1_i32_168 : BitVec 32 := 1#32
  let arg11 : BitVec 32 := Scf.iv v336 c1_i32_168 k0_t26
  let c256_i32_221 : BitVec 32 := 256#32
  let v444 : BitVec 32 := Scalar.muli arg11 c256_i32_221
  let v445 : Index := Scalar.indexCast v444
  let c0_222 : Index := 0#32
  ![v445.toNat, 0]
@[reducible] def k0_t27_loop (i : grid0.Coords) : Scf.Loop 32 :=
  let c0_i32_182 : BitVec 32 := 0#32
  let arg2 : BitVec 32 := BitVec.ofNat 32 (i 2).val
  let c1_i32_180 : BitVec 32 := 1#32
  let v364 : BitVec 32 := Scalar.addi arg2 c1_i32_180
  let v366 : BitVec 32 := Scalar.subi v364 c0_i32_182
  let c1_i32_183 : BitVec 32 := 1#32
  let v368 : BitVec 32 := Scalar.divsi v366 c1_i32_183
  let v369 : BitVec 32 := Scalar.muli v368 c1_i32_183
  let v370 : BitVec 32 := Scalar.addi c0_i32_182 v369
  let c1_i32_184 : BitVec 32 := 1#32
  ⟨c0_i32_182, v370, c1_i32_184⟩
def k0_off63 (i : grid0.Coords) (k0_t27 : Fin (k0_t27_loop i).trips) : Fin 2 → Nat :=
  let c0_i32_182 : BitVec 32 := 0#32
  let c1_i32_184 : BitVec 32 := 1#32
  let arg11 : BitVec 32 := Scf.iv c0_i32_182 c1_i32_184 k0_t27
  let c256_i32_216 : BitVec 32 := 256#32
  let v433 : BitVec 32 := Scalar.muli arg11 c256_i32_216
  let v434 : Index := Scalar.indexCast v433
  let c0_217 : Index := 0#32
  ![v434.toNat, 0]
def k0_mult13 (i : grid0.Coords) (k0_t27 : Fin (k0_t27_loop i).trips) : BitVec 32 :=
  let c0_i32_182 : BitVec 32 := 0#32
  let c1_i32_184 : BitVec 32 := 1#32
  let arg11 : BitVec 32 := Scf.iv c0_i32_182 c1_i32_184 k0_t27
  let c256_i32_220 : BitVec 32 := 256#32
  let v443 : BitVec 32 := Scalar.muli arg11 c256_i32_220
  v443
def k0_off64 (i : grid0.Coords) (k0_t27 : Fin (k0_t27_loop i).trips) : Fin 2 → Nat :=
  let c0_221 : Index := 0#32
  let c0_i32_182 : BitVec 32 := 0#32
  let c1_i32_184 : BitVec 32 := 1#32
  let arg11 : BitVec 32 := Scf.iv c0_i32_182 c1_i32_184 k0_t27
  let c256_i32_220 : BitVec 32 := 256#32
  let v443 : BitVec 32 := Scalar.muli arg11 c256_i32_220
  let v444 : BitVec 32 := v443
  let v445 : Index := Scalar.indexCast v444
  ![0, v445.toNat]
@[reducible] def k0_t28_loop (i : grid0.Coords) : Scf.Loop 32 :=
  let c0_i32_182 : BitVec 32 := 0#32
  let arg2 : BitVec 32 := BitVec.ofNat 32 (i 2).val
  let c1_i32_180 : BitVec 32 := 1#32
  let v364 : BitVec 32 := Scalar.addi arg2 c1_i32_180
  let v366 : BitVec 32 := Scalar.subi v364 c0_i32_182
  let c1_i32_183 : BitVec 32 := 1#32
  let v368 : BitVec 32 := Scalar.divsi v366 c1_i32_183
  let v369 : BitVec 32 := Scalar.muli v368 c1_i32_183
  let v370 : BitVec 32 := Scalar.addi c0_i32_182 v369
  let v367 : BitVec 32 := Scalar.addi c0_i32_182 v366
  let c1_i32_185 : BitVec 32 := 1#32
  ⟨v370, v367, c1_i32_185⟩
def k0_off65 (i : grid0.Coords) (k0_t28 : Fin (k0_t28_loop i).trips) : Fin 2 → Nat :=
  let c0_i32_182 : BitVec 32 := 0#32
  let arg2 : BitVec 32 := BitVec.ofNat 32 (i 2).val
  let c1_i32_180 : BitVec 32 := 1#32
  let v364 : BitVec 32 := Scalar.addi arg2 c1_i32_180
  let v366 : BitVec 32 := Scalar.subi v364 c0_i32_182
  let c1_i32_183 : BitVec 32 := 1#32
  let v368 : BitVec 32 := Scalar.divsi v366 c1_i32_183
  let v369 : BitVec 32 := Scalar.muli v368 c1_i32_183
  let v370 : BitVec 32 := Scalar.addi c0_i32_182 v369
  let c1_i32_185 : BitVec 32 := 1#32
  let arg11 : BitVec 32 := Scf.iv v370 c1_i32_185 k0_t28
  let c256_i32_216 : BitVec 32 := 256#32
  let v433 : BitVec 32 := Scalar.muli arg11 c256_i32_216
  let v434 : Index := Scalar.indexCast v433
  let c0_217 : Index := 0#32
  ![v434.toNat, 0]
def k0_mult14 (i : grid0.Coords) (k0_t28 : Fin (k0_t28_loop i).trips) : BitVec 32 :=
  let c0_i32_182 : BitVec 32 := 0#32
  let arg2 : BitVec 32 := BitVec.ofNat 32 (i 2).val
  let c1_i32_180 : BitVec 32 := 1#32
  let v364 : BitVec 32 := Scalar.addi arg2 c1_i32_180
  let v366 : BitVec 32 := Scalar.subi v364 c0_i32_182
  let c1_i32_183 : BitVec 32 := 1#32
  let v368 : BitVec 32 := Scalar.divsi v366 c1_i32_183
  let v369 : BitVec 32 := Scalar.muli v368 c1_i32_183
  let v370 : BitVec 32 := Scalar.addi c0_i32_182 v369
  let c1_i32_185 : BitVec 32 := 1#32
  let arg11 : BitVec 32 := Scf.iv v370 c1_i32_185 k0_t28
  let c256_i32_220 : BitVec 32 := 256#32
  let v443 : BitVec 32 := Scalar.muli arg11 c256_i32_220
  v443
def k0_off66 (i : grid0.Coords) (k0_t28 : Fin (k0_t28_loop i).trips) : Fin 2 → Nat :=
  let c0_221 : Index := 0#32
  let c0_i32_182 : BitVec 32 := 0#32
  let arg2 : BitVec 32 := BitVec.ofNat 32 (i 2).val
  let c1_i32_180 : BitVec 32 := 1#32
  let v364 : BitVec 32 := Scalar.addi arg2 c1_i32_180
  let v366 : BitVec 32 := Scalar.subi v364 c0_i32_182
  let c1_i32_183 : BitVec 32 := 1#32
  let v368 : BitVec 32 := Scalar.divsi v366 c1_i32_183
  let v369 : BitVec 32 := Scalar.muli v368 c1_i32_183
  let v370 : BitVec 32 := Scalar.addi c0_i32_182 v369
  let c1_i32_185 : BitVec 32 := 1#32
  let arg11 : BitVec 32 := Scf.iv v370 c1_i32_185 k0_t28
  let c256_i32_220 : BitVec 32 := 256#32
  let v443 : BitVec 32 := Scalar.muli arg11 c256_i32_220
  let v444 : BitVec 32 := v443
  let v445 : Index := Scalar.indexCast v444
  ![0, v445.toNat]
def k0_off67 (i : grid0.Coords) : Fin 2 → Nat :=
  let arg1 : BitVec 32 := BitVec.ofNat 32 (i 1).val
  let v382 : Index := Scalar.indexCast arg1
  let c7 : Index := 7#32
  ![v382.toNat, 7]
@[reducible] def k0_t29_loop (i : grid0.Coords) : Scf.Loop 32 :=
  let c0_i32_192 : BitVec 32 := 0#32
  let arg2 : BitVec 32 := BitVec.ofNat 32 (i 2).val
  let v385 : BitVec 32 := Scalar.subi arg2 c0_i32_192
  let c1_i32_193 : BitVec 32 := 1#32
  let v387 : BitVec 32 := Scalar.divsi v385 c1_i32_193
  let v388 : BitVec 32 := Scalar.muli v387 c1_i32_193
  let v389 : BitVec 32 := Scalar.addi c0_i32_192 v388
  let c1_i32_194 : BitVec 32 := 1#32
  ⟨c0_i32_192, v389, c1_i32_194⟩
def k0_off68 (i : grid0.Coords) (k0_t29 : Fin (k0_t29_loop i).trips) : Fin 3 → Nat :=
  let c0_217 : Index := 0#32
  let c0_i32_192 : BitVec 32 := 0#32
  let c1_i32_194 : BitVec 32 := 1#32
  let arg11 : BitVec 32 := Scf.iv c0_i32_192 c1_i32_194 k0_t29
  let c256_i32_216 : BitVec 32 := 256#32
  let v433 : BitVec 32 := Scalar.muli arg11 c256_i32_216
  let v434 : Index := Scalar.indexCast v433
  let c0_218 : Index := 0#32
  ![0, v434.toNat, 0]
def k0_off69 (i : grid0.Coords) (k0_t29 : Fin (k0_t29_loop i).trips) : Fin 2 → Nat :=
  let c0_i32_192 : BitVec 32 := 0#32
  let c1_i32_194 : BitVec 32 := 1#32
  let arg11 : BitVec 32 := Scf.iv c0_i32_192 c1_i32_194 k0_t29
  let c256_i32_221 : BitVec 32 := 256#32
  let v444 : BitVec 32 := Scalar.muli arg11 c256_i32_221
  let v445 : Index := Scalar.indexCast v444
  let c0_222 : Index := 0#32
  ![v445.toNat, 0]
@[reducible] def k0_t30_loop (i : grid0.Coords) : Scf.Loop 32 :=
  let c0_i32_192 : BitVec 32 := 0#32
  let arg2 : BitVec 32 := BitVec.ofNat 32 (i 2).val
  let v385 : BitVec 32 := Scalar.subi arg2 c0_i32_192
  let c1_i32_193 : BitVec 32 := 1#32
  let v387 : BitVec 32 := Scalar.divsi v385 c1_i32_193
  let v388 : BitVec 32 := Scalar.muli v387 c1_i32_193
  let v389 : BitVec 32 := Scalar.addi c0_i32_192 v388
  let v386 : BitVec 32 := Scalar.addi c0_i32_192 v385
  let c1_i32_195 : BitVec 32 := 1#32
  ⟨v389, v386, c1_i32_195⟩
def k0_off70 (i : grid0.Coords) (k0_t30 : Fin (k0_t30_loop i).trips) : Fin 3 → Nat :=
  let c0_217 : Index := 0#32
  let c0_i32_192 : BitVec 32 := 0#32
  let arg2 : BitVec 32 := BitVec.ofNat 32 (i 2).val
  let v385 : BitVec 32 := Scalar.subi arg2 c0_i32_192
  let c1_i32_193 : BitVec 32 := 1#32
  let v387 : BitVec 32 := Scalar.divsi v385 c1_i32_193
  let v388 : BitVec 32 := Scalar.muli v387 c1_i32_193
  let v389 : BitVec 32 := Scalar.addi c0_i32_192 v388
  let c1_i32_195 : BitVec 32 := 1#32
  let arg11 : BitVec 32 := Scf.iv v389 c1_i32_195 k0_t30
  let c256_i32_216 : BitVec 32 := 256#32
  let v433 : BitVec 32 := Scalar.muli arg11 c256_i32_216
  let v434 : Index := Scalar.indexCast v433
  let c0_218 : Index := 0#32
  ![0, v434.toNat, 0]
def k0_off71 (i : grid0.Coords) (k0_t30 : Fin (k0_t30_loop i).trips) : Fin 2 → Nat :=
  let c0_i32_192 : BitVec 32 := 0#32
  let arg2 : BitVec 32 := BitVec.ofNat 32 (i 2).val
  let v385 : BitVec 32 := Scalar.subi arg2 c0_i32_192
  let c1_i32_193 : BitVec 32 := 1#32
  let v387 : BitVec 32 := Scalar.divsi v385 c1_i32_193
  let v388 : BitVec 32 := Scalar.muli v387 c1_i32_193
  let v389 : BitVec 32 := Scalar.addi c0_i32_192 v388
  let c1_i32_195 : BitVec 32 := 1#32
  let arg11 : BitVec 32 := Scf.iv v389 c1_i32_195 k0_t30
  let c256_i32_221 : BitVec 32 := 256#32
  let v444 : BitVec 32 := Scalar.muli arg11 c256_i32_221
  let v445 : Index := Scalar.indexCast v444
  let c0_222 : Index := 0#32
  ![v445.toNat, 0]
@[reducible] def k0_t31_loop (i : grid0.Coords) : Scf.Loop 32 :=
  let c0_i32_209 : BitVec 32 := 0#32
  let arg2 : BitVec 32 := BitVec.ofNat 32 (i 2).val
  let c1_i32_207 : BitVec 32 := 1#32
  let v417 : BitVec 32 := Scalar.addi arg2 c1_i32_207
  let v419 : BitVec 32 := Scalar.subi v417 c0_i32_209
  let c1_i32_210 : BitVec 32 := 1#32
  let v421 : BitVec 32 := Scalar.divsi v419 c1_i32_210
  let v422 : BitVec 32 := Scalar.muli v421 c1_i32_210
  let v423 : BitVec 32 := Scalar.addi c0_i32_209 v422
  let c1_i32_211 : BitVec 32 := 1#32
  ⟨c0_i32_209, v423, c1_i32_211⟩
def k0_off72 (i : grid0.Coords) (k0_t31 : Fin (k0_t31_loop i).trips) : Fin 2 → Nat :=
  let c0_i32_209 : BitVec 32 := 0#32
  let c1_i32_211 : BitVec 32 := 1#32
  let arg11 : BitVec 32 := Scf.iv c0_i32_209 c1_i32_211 k0_t31
  let c256_i32_216 : BitVec 32 := 256#32
  let v433 : BitVec 32 := Scalar.muli arg11 c256_i32_216
  let v434 : Index := Scalar.indexCast v433
  let c0_217 : Index := 0#32
  ![v434.toNat, 0]
def k0_mult15 (i : grid0.Coords) (k0_t31 : Fin (k0_t31_loop i).trips) : BitVec 32 :=
  let c0_i32_209 : BitVec 32 := 0#32
  let c1_i32_211 : BitVec 32 := 1#32
  let arg11 : BitVec 32 := Scf.iv c0_i32_209 c1_i32_211 k0_t31
  let c256_i32_220 : BitVec 32 := 256#32
  let v443 : BitVec 32 := Scalar.muli arg11 c256_i32_220
  v443
def k0_off73 (i : grid0.Coords) (k0_t31 : Fin (k0_t31_loop i).trips) : Fin 2 → Nat :=
  let c0_221 : Index := 0#32
  let c0_i32_209 : BitVec 32 := 0#32
  let c1_i32_211 : BitVec 32 := 1#32
  let arg11 : BitVec 32 := Scf.iv c0_i32_209 c1_i32_211 k0_t31
  let c256_i32_220 : BitVec 32 := 256#32
  let v443 : BitVec 32 := Scalar.muli arg11 c256_i32_220
  let v444 : BitVec 32 := v443
  let v445 : Index := Scalar.indexCast v444
  ![0, v445.toNat]
@[reducible] def k0_t32_loop (i : grid0.Coords) : Scf.Loop 32 :=
  let c0_i32_209 : BitVec 32 := 0#32
  let arg2 : BitVec 32 := BitVec.ofNat 32 (i 2).val
  let c1_i32_207 : BitVec 32 := 1#32
  let v417 : BitVec 32 := Scalar.addi arg2 c1_i32_207
  let v419 : BitVec 32 := Scalar.subi v417 c0_i32_209
  let c1_i32_210 : BitVec 32 := 1#32
  let v421 : BitVec 32 := Scalar.divsi v419 c1_i32_210
  let v422 : BitVec 32 := Scalar.muli v421 c1_i32_210
  let v423 : BitVec 32 := Scalar.addi c0_i32_209 v422
  let v420 : BitVec 32 := Scalar.addi c0_i32_209 v419
  let c1_i32_212 : BitVec 32 := 1#32
  ⟨v423, v420, c1_i32_212⟩
def k0_off74 (i : grid0.Coords) (k0_t32 : Fin (k0_t32_loop i).trips) : Fin 2 → Nat :=
  let c0_i32_209 : BitVec 32 := 0#32
  let arg2 : BitVec 32 := BitVec.ofNat 32 (i 2).val
  let c1_i32_207 : BitVec 32 := 1#32
  let v417 : BitVec 32 := Scalar.addi arg2 c1_i32_207
  let v419 : BitVec 32 := Scalar.subi v417 c0_i32_209
  let c1_i32_210 : BitVec 32 := 1#32
  let v421 : BitVec 32 := Scalar.divsi v419 c1_i32_210
  let v422 : BitVec 32 := Scalar.muli v421 c1_i32_210
  let v423 : BitVec 32 := Scalar.addi c0_i32_209 v422
  let c1_i32_212 : BitVec 32 := 1#32
  let arg11 : BitVec 32 := Scf.iv v423 c1_i32_212 k0_t32
  let c256_i32_216 : BitVec 32 := 256#32
  let v433 : BitVec 32 := Scalar.muli arg11 c256_i32_216
  let v434 : Index := Scalar.indexCast v433
  let c0_217 : Index := 0#32
  ![v434.toNat, 0]
def k0_mult16 (i : grid0.Coords) (k0_t32 : Fin (k0_t32_loop i).trips) : BitVec 32 :=
  let c0_i32_209 : BitVec 32 := 0#32
  let arg2 : BitVec 32 := BitVec.ofNat 32 (i 2).val
  let c1_i32_207 : BitVec 32 := 1#32
  let v417 : BitVec 32 := Scalar.addi arg2 c1_i32_207
  let v419 : BitVec 32 := Scalar.subi v417 c0_i32_209
  let c1_i32_210 : BitVec 32 := 1#32
  let v421 : BitVec 32 := Scalar.divsi v419 c1_i32_210
  let v422 : BitVec 32 := Scalar.muli v421 c1_i32_210
  let v423 : BitVec 32 := Scalar.addi c0_i32_209 v422
  let c1_i32_212 : BitVec 32 := 1#32
  let arg11 : BitVec 32 := Scf.iv v423 c1_i32_212 k0_t32
  let c256_i32_220 : BitVec 32 := 256#32
  let v443 : BitVec 32 := Scalar.muli arg11 c256_i32_220
  v443
def k0_off75 (i : grid0.Coords) (k0_t32 : Fin (k0_t32_loop i).trips) : Fin 2 → Nat :=
  let c0_221 : Index := 0#32
  let c0_i32_209 : BitVec 32 := 0#32
  let arg2 : BitVec 32 := BitVec.ofNat 32 (i 2).val
  let c1_i32_207 : BitVec 32 := 1#32
  let v417 : BitVec 32 := Scalar.addi arg2 c1_i32_207
  let v419 : BitVec 32 := Scalar.subi v417 c0_i32_209
  let c1_i32_210 : BitVec 32 := 1#32
  let v421 : BitVec 32 := Scalar.divsi v419 c1_i32_210
  let v422 : BitVec 32 := Scalar.muli v421 c1_i32_210
  let v423 : BitVec 32 := Scalar.addi c0_i32_209 v422
  let c1_i32_212 : BitVec 32 := 1#32
  let arg11 : BitVec 32 := Scf.iv v423 c1_i32_212 k0_t32
  let c256_i32_220 : BitVec 32 := 256#32
  let v443 : BitVec 32 := Scalar.muli arg11 c256_i32_220
  let v444 : BitVec 32 := v443
  let v445 : Index := Scalar.indexCast v444
  ![0, v445.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "softcap_log2e" => some ((50 * (Real.log 2)⁻¹ : ℝ) : EReal)
  | _ => none
-- ==== ReferenceIdeal.lean ====
abbrev S8x2048x2048 : Shape := ⟨3, ![8, 2048, 2048]⟩
abbrev S16 : Shape := ⟨1, ![16]⟩
abbrev S8x2048x256 : Shape := ⟨3, ![8, 2048, 256]⟩
abbrev S2 : Shape := ⟨1, ![2]⟩
abbrev S8x2048x2x8x128 : Shape := ⟨5, ![8, 2048, 2, 8, 128]⟩
abbrev S8x2048x2x128 : Shape := ⟨4, ![8, 2048, 2, 128]⟩
abbrev S2x8 : Shape := ⟨2, ![2, 8]⟩
abbrev S2x1 : Shape := ⟨2, ![2, 1]⟩
abbrev S_ : Shape := ⟨0, ![]⟩
abbrev S8x2x2048x2048x8 : Shape := ⟨5, ![8, 2, 2048, 2048, 8]⟩
abbrev S8x2x8x2048x2048 : Shape := ⟨5, ![8, 2, 8, 2048, 2048]⟩
abbrev S1x2x8x1x1 : Shape := ⟨5, ![1, 2, 8, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2x8x2048 : Shape := ⟨4, ![8, 2, 8, 2048]⟩
abbrev S8x2x8x2048x1 : Shape := ⟨5, ![8, 2, 8, 2048, 1]⟩
abbrev S8x2x128x8x2048 : Shape := ⟨5, ![8, 2, 128, 8, 2048]⟩
abbrev S1x1x2x1x1 : Shape := ⟨5, ![1, 1, 2, 1, 1]⟩

abbrev nBuf : Space → Nat
  | .hbm => 78
  | .vmem => 6
  | .smem => 0
  | _ => 0

abbrev bufTy : (tb : Table) → Fin (tcTables nBuf tb) → BufTy
  | .hbm, ⟨0, _⟩ => ⟨S8x2048x2048, .fp8e4m3⟩
  | .hbm, ⟨1, _⟩ => ⟨S16, .f32⟩
  | .hbm, ⟨2, _⟩ => ⟨S8x2048x256, .fp8e4m3⟩
  | .hbm, ⟨3, _⟩ => ⟨S2, .f32⟩
  | .hbm, ⟨4, _⟩ => ⟨S8x2048x256, .fp8e4m3⟩
  | .hbm, ⟨5, _⟩ => ⟨S2, .f32⟩
  | .hbm, ⟨6, _⟩ => ⟨S8x2048x2048, .f32⟩
  | .hbm, ⟨7, _⟩ => ⟨S8x2048x256, .f32⟩
  | .hbm, ⟨8, _⟩ => ⟨S8x2048x256, .f32⟩
  | .hbm, ⟨9, _⟩ => ⟨S8x2048x2x8x128, .f32⟩
  | .hbm, ⟨10, _⟩ => ⟨S8x2048x2x128, .f32⟩
  | .hbm, ⟨11, _⟩ => ⟨S8x2048x2x128, .f32⟩
  | .hbm, ⟨12, _⟩ => ⟨S2x8, .f32⟩
  | .hbm, ⟨13, _⟩ => ⟨S2x1, .f32⟩
  | .hbm, ⟨14, _⟩ => ⟨S2x8, .f32⟩
  | .hbm, ⟨15, _⟩ => ⟨S2x8, .f32⟩
  | .hbm, ⟨16, _⟩ => ⟨S_, .f32⟩
  | .hbm, ⟨17, _⟩ => ⟨S2x8, .f32⟩
  | .hbm, ⟨18, _⟩ => ⟨S2x8, .f32⟩
  | .hbm, ⟨19, _⟩ => ⟨S8x2x2048x2048x8, .f32⟩
  | .hbm, ⟨20, _⟩ => ⟨S8x2x8x2048x2048, .f32⟩
  | .hbm, ⟨21, _⟩ => ⟨S1x2x8x1x1, .f32⟩
  | .hbm, ⟨22, _⟩ => ⟨S8x2x8x2048x2048, .f32⟩
  | .hbm, ⟨23, _⟩ => ⟨S8x2x8x2048x2048, .f32⟩
  | .hbm, ⟨24, _⟩ => ⟨S_, .f32⟩
  | .hbm, ⟨25, _⟩ => ⟨S8x2x8x2048x2048, .f32⟩
  | .hbm, ⟨26, _⟩ => ⟨S8x2x8x2048x2048, .f32⟩
  | .hbm, ⟨27, _⟩ => ⟨S8x2x8x2048x2048, .f32⟩
  | .hbm, ⟨28, _⟩ => ⟨S_, .f32⟩
  | .hbm, ⟨29, _⟩ => ⟨S8x2x8x2048x2048, .f32⟩
  | .hbm, ⟨30, _⟩ => ⟨S8x2x8x2048x2048, .f32⟩
  | .hbm, ⟨31, _⟩ => ⟨S2048, .i32⟩
  | .hbm, ⟨32, _⟩ => ⟨S1x2048, .i32⟩
  | .hbm, ⟨33, _⟩ => ⟨S2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x2x8x2048x2048, .i1⟩
  | .hbm, ⟨41, _⟩ => ⟨S8x2x8x2048x2048, .f32⟩
  | .hbm, ⟨42, _⟩ => ⟨S8x2x8x2048x2048, .f32⟩
  | .hbm, ⟨43, _⟩ => ⟨S_, .f32⟩
  | .hbm, ⟨44, _⟩ => ⟨S8x2x8x2048, .f32⟩
  | .hbm, ⟨45, _⟩ => ⟨S_, .f32⟩
  | .hbm, ⟨46, _⟩ => ⟨S8x2x8x2048, .f32⟩
  | .hbm, ⟨47, _⟩ => ⟨S8x2x8x2048, .f32⟩
  | .hbm, ⟨48, _⟩ => ⟨S8x2x8x2048x1, .f32⟩
  | .hbm, ⟨49, _⟩ => ⟨S8x2x8x2048x2048, .f32⟩
  | .hbm, ⟨50, _⟩ => ⟨S8x2x8x2048x2048, .f32⟩
  | .hbm, ⟨51, _⟩ => ⟨S8x2x8x2048x2048, .f32⟩
  | .hbm, ⟨52, _⟩ => ⟨S_, .f32⟩
  | .hbm, ⟨53, _⟩ => ⟨S8x2x8x2048, .f32⟩
  | .hbm, ⟨54, _⟩ => ⟨S8x2x8x2048x1, .f32⟩
  | .hbm, ⟨55, _⟩ => ⟨S8x2x8x2048x2048, .f32⟩
  | .hbm, ⟨56, _⟩ => ⟨S8x2x8x2048x2048, .f32⟩
  | .hbm, ⟨57, _⟩ => ⟨S_, .f32⟩
  | .hbm, ⟨58, _⟩ => ⟨S8x2x8x2048x2048, .f32⟩
  | .hbm, ⟨59, _⟩ => ⟨S8x2x8x2048x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x2x8x2048x2048, .f32⟩
  | .hbm, ⟨64, _⟩ => ⟨S8x2x8x2048x2048, .f32⟩
  | .hbm, ⟨65, _⟩ => ⟨S_, .f32⟩
  | .hbm, ⟨66, _⟩ => ⟨S8x2x8x2048x2048, .f32⟩
  | .hbm, ⟨67, _⟩ => ⟨S8x2x8x2048x2048, .f32⟩
  | .hbm, ⟨68, _⟩ => ⟨S8x2x128x8x2048, .f32⟩
  | .hbm, ⟨69, _⟩ => ⟨S8x2048x2x8x128, .f32⟩
  | .hbm, ⟨70, _⟩ => ⟨S1x1x2x1x1, .f32⟩
  | .hbm, ⟨71, _⟩ => ⟨S_, .f32⟩
  | .hbm, ⟨72, _⟩ => ⟨S1x1x2x1x1, .f32⟩
  | .hbm, ⟨73, _⟩ => ⟨S1x1x2x1x1, .f32⟩
  | .hbm, ⟨74, _⟩ => ⟨S8x2048x2x8x128, .f32⟩
  | .hbm, ⟨75, _⟩ => ⟨S8x2048x2x8x128, .f32⟩
  | .hbm, ⟨76, _⟩ => ⟨S8x2048x2048, .f32⟩
  | .hbm, ⟨77, _⟩ => ⟨S8x2048x2048, .bf16⟩
  | .local _ .vmem, ⟨0, _⟩ => ⟨S8x2048x2048, .fp8e4m3⟩
  | .local _ .vmem, ⟨1, _⟩ => ⟨S8x2048x256, .fp8e4m3⟩
  | .local _ .vmem, ⟨2, _⟩ => ⟨S8x2048x256, .fp8e4m3⟩
  | .local _ .vmem, ⟨3, _⟩ => ⟨S8x2048x2048, .f32⟩
  | .local _ .vmem, ⟨4, _⟩ => ⟨S8x2048x256, .f32⟩
  | .local _ .vmem, ⟨5, _⟩ => ⟨S8x2048x256, .f32⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.HeadB.lean ====
/-
  The kernel's body at one grid point, written as one routine per head called eight times, and the equation that the
  printed body is that program. `scoreTile`, `diagTile`, `partSum`, `recip`, `codes`, `pvStep` and `outTile` name the
  vector values a head computes.
-/
module

public import proofs.«01_k».proof.Proof.Gen.Kernel.Skeleton

@[expose] public section

set_option maxRecDepth 16384

noncomputable section

namespace Cert.Proof.KB

open Cert.Kernel Cert.Kernel.Gen
open Idealize.ShloMosaic Idealize.SL.Sem

variable {F : FTy → Type} [FloatOps F]

/-- The factor of the soft cap, 50 / log 2. -/
def cap : F .f32 := Scalar.ofBits .f32 0x429044FE#32

/-- Where a key's place in the tile is not after the query's. -/
def maskI : IVec S256x256 1 :=
  cmpi .sle (iota .tc S256x256 32 [0] iota_S256x256_d0_w32) (iota .tc S256x256 32 [1] iota_S256x256_d1_w32)

/-- The queries of one head as a matrix. -/
def qMat (v : Vec F S1x256x128 .fp8e4m3) : FVec F S256x128 .fp8e4m3 := shapeCast S256x128 v shapeCasts_S1x256x128_S256x128

/-- The exponentials of one tile's soft-capped scores: keys down, queries across. -/
def scoreTile (v : Vec F S1x256x128 .fp8e4m3) (c : F .f32) (kb : Vec F S1x256x128 .fp8e4m3) : FVec F S256x256 .f32 :=
  exp2 (mulf (broadcast S256x256 cap) (tanh (mulf
    (matmul dot_S256x128_S256x128_S256x256_1_1_0_0_n_n none (qMat kb) (qMat v) (constant S256x256 .f32 0x00000000#32))
    (broadcast S256x256 c))))

/-- The same on the diagonal tile, zero at the keys after the query. -/
def diagTile (v : Vec F S1x256x128 .fp8e4m3) (c : F .f32) (kb : Vec F S1x256x128 .fp8e4m3) : FVec F S256x256 .f32 :=
  select maskI (scoreTile v c kb) (broadcast S256x256 (Scalar.ofBits .f32 0x00000000#32 : F .f32))

/-- A tile's sums over every eighth key. -/
def partSum (e : FVec F S256x256 .f32) : FVec F S8x256 .f32 :=
  multiReduction .add [0] S8x256 (shapeCast S32x8x256 e shapeCasts_S256x256_S32x8x256) 0x00000000#32 reduces_S32x8x256_S8x256 (.inl rfl) rfl

/-- 256 over the sum of a query's exponentials. -/
def recip (l : FVec F S8x256 .f32) : FVec F S1x256 .f32 :=
  divf (broadcast S1x256 (Scalar.ofBits .f32 0x43800000#32 : F .f32))
    (shapeCast S1x256 (multiReduction .add [0] S256 l 0x00000000#32 reduces_S8x256_S256 (.inl rfl) rfl) shapeCasts_S256_S1x256)

/-- The probabilities' codes of one tile. -/
def codes (r : FVec F S1x256 .f32) (e : Vec F S256x256 .f32) : FVec F S256x256 .fp8e4m3 :=
  truncf .fp8e4m3 (minimumf (broadcast S256x256 (Scalar.ofBits .f32 0x43E00000#32 : F .f32))
    (maximumf (broadcast S256x256 (Scalar.ofBits .f32 0xC3E00000#32 : F .f32))
      (mulf e (broadcastTo S256x256 r broadcasts_S1x256_S256x256)))) bitsLt_fp8e4m3_f32

/-- One tile's part of the product with the values, added on. -/
def pvStep (r : FVec F S1x256 .f32) (acc : FVec F S128x256 .f32) (e : Vec F S256x256 .f32) (vb : Vec F S128x256 .fp8e4m3) : FVec F S128x256 .f32 :=
  addf acc (matmul dot_S128x256_S256x256_S128x256_1_0_0_1_n_n none vb (codes r e) (constant S128x256 .f32 0x00000000#32))

/-- One head's result: scaled, transposed and rounded. -/
def outTile (s : F .f32) (acc : FVec F S128x256 .f32) : FVec F S1x256x128 .bf16 :=
  shapeCast S1x256x128 (truncf .bf16 (transpose S256x128 [1, 0] (mulf acc (broadcast S128x256 s)) transposes_S128x256_p1_0_S256x128) bitsLt_bf16_f32)
    shapeCasts_S256x128_S1x256x128

/-- The values transposed, by a product with the identity matrix. -/
def vtMat (v : Vec F S1x2048x128 .fp8e4m3) : FVec F S128x2048 .fp8e4m3 :=
  shapeCast S128x2048 (truncf .fp8e4m3 (matmul dot_S128x128_S2048x128_S128x2048_1_1_0_0_n_n none
    (truncf .fp8e4m3 (select (cmpi .eq (iota .tc S128x128 32 [0] iota_S128x128_d0_w32) (iota .tc S128x128 32 [1] iota_S128x128_d1_w32))
      (broadcast S128x128 (Scalar.ofBits .f32 0x3F800000#32 : F .f32)) (broadcast S128x128 (Scalar.ofBits .f32 0x00000000#32 : F .f32))) bitsLt_fp8e4m3_f32)
    (shapeCast S2048x128 v shapeCasts_S1x2048x128_S2048x128 : FVec F S2048x128 .fp8e4m3) (constant S128x2048 .f32 0x00000000#32)) bitsLt_fp8e4m3_f32)
    shapeCasts_S128x2048_S128x2048

/-- The scale of the output: the values' scale over 256. -/
def outScale (v7 : F .f32) : F .f32 := Scalar.mulf v7 (Scalar.ofBits .f32 0x3B800000#32)

/-- The sums before the first tile. -/
def sum0 : FVec F S8x256 .f32 := broadcast S8x256 (Scalar.ofBits .f32 0x00000000#32 : F .f32)

/-- The product before the first tile. -/
def acc0 : FVec F S128x256 .f32 := broadcast S128x256 (Scalar.ofBits .f32 0x00000000#32 : F .f32)

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)

/-- A trip of the first loop: one full tile's exponentials stored, their sums added on. -/
def scoreTrip (v : Vec F S1x256x128 .fp8e4m3) (c : F .f32) (t : Fin (k0_t1_loop i).trips) (acc : FVec F S8x256 .f32) :
    Prog (TpuEff nD τ sig (Elt F) Λ₀ .tc) (FVec F S8x256 .f32) := do
  let kb : Vec F S1x256x128 .fp8e4m3 ← Prog.lift (.load arg6 (Rect.unit (s := S1x2048x128) (k0_off3 i t) S1x256x128.size (k0_off3_inb i t)).toLoadRect (View.loadsAt_vmem h_S1x256x128))
  let _ : Vec F S256x256 .f32 ← Prog.lift (.load arg10 (Rect.unit (s := S2048x256) (k0_off4 i t) S256x256.size (k0_off4_inb i t)).toLoadRect (View.loadsAt_vmem h_S256x256))
  Prog.lift (.store arg10 (Rect.unit (s := S2048x256) (k0_off4 i t) S256x256.size (k0_off4_inb i t)) (shapeCast S256x256 (scoreTile v c kb) shapeCasts_S256x256_S256x256) Finset.univ (View.stores_vmem_bits_univ h_S256x256 rfl) (.inl rfl))
  pure (addf acc (partSum (scoreTile v c kb)))

/-- A trip of the first loop's remainder, which makes none. -/
def scoreRest (v : Vec F S1x256x128 .fp8e4m3) (c : F .f32) (t : Fin (k0_t2_loop i).trips) (acc : FVec F S8x256 .f32) :
    Prog (TpuEff nD τ sig (Elt F) Λ₀ .tc) (FVec F S8x256 .f32) := do
  let kb : Vec F S1x256x128 .fp8e4m3 ← Prog.lift (.load arg6 (Rect.unit (s := S1x2048x128) (k0_off5 i t) S1x256x128.size (k0_off5_inb i t)).toLoadRect (View.loadsAt_vmem h_S1x256x128))
  let _ : Vec F S256x256 .f32 ← Prog.lift (.load arg10 (Rect.unit (s := S2048x256) (k0_off6 i t) S256x256.size (k0_off6_inb i t)).toLoadRect (View.loadsAt_vmem h_S256x256))
  Prog.lift (.store arg10 (Rect.unit (s := S2048x256) (k0_off6 i t) S256x256.size (k0_off6_inb i t)) (shapeCast S256x256 (scoreTile v c kb) shapeCasts_S256x256_S256x256) Finset.univ (View.stores_vmem_bits_univ h_S256x256 rfl) (.inl rfl))
  pure (addf acc (partSum (scoreTile v c kb)))

/-- A trip of the second loop: one tile's codes against its values. -/
def pvTrip (r : FVec F S1x256 .f32) (t : Fin (k0_t3_loop i).trips) (acc : FVec F S128x256 .f32) :
    Prog (TpuEff nD τ sig (Elt F) Λ₀ .tc) (FVec F S128x256 .f32) := do
  let e : Vec F S256x256 .f32 ← Prog.lift (.load arg10 (Rect.unit (s := S2048x256) (k0_off9 i t) S256x256.size (k0_off9_inb i t)).toLoadRect (View.loadsAt_vmem h_S256x256))
  let vb : Vec F S128x256 .fp8e4m3 ← Prog.lift (.load arg9 (Rect.unit (s := S128x2048) (k0_off10 i t) S128x256.size (k0_off10_inb i t)).toLoadRect (View.loadsAt_vmem h_S128x256))
  pure (pvStep r acc e vb)

/-- A trip of the second loop's remainder, which makes none. -/
def pvRest (r : FVec F S1x256 .f32) (t : Fin (k0_t4_loop i).trips) (acc : FVec F S128x256 .f32) :
    Prog (TpuEff nD τ sig (Elt F) Λ₀ .tc) (FVec F S128x256 .f32) := do
  let e : Vec F S256x256 .f32 ← Prog.lift (.load arg10 (Rect.unit (s := S2048x256) (k0_off11 i t) S256x256.size (k0_off11_inb i t)).toLoadRect (View.loadsAt_vmem h_S256x256))
  let vb : Vec F S128x256 .fp8e4m3 ← Prog.lift (.load arg9 (Rect.unit (s := S128x2048) (k0_off12 i t) S128x256.size (k0_off12_inb i t)).toLoadRect (View.loadsAt_vmem h_S128x256))
  pure (pvStep r acc e vb)

/-- One head: its queries at offsets `oq`, its scale at offsets `oc`, its result stored at `oq`. -/
def head (s : F .f32) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ) :
    Prog (TpuEff nD τ sig (Elt F) Λ₀ .tc) PUnit := do
  let v : Vec F S1x256x128 .fp8e4m3 ← Prog.lift (.load arg5 (Rect.unit (s := S1x256x1024) oq S1x256x128.size hq).toLoadRect (View.loadsAt_vmem h_S1x256x128))
  let c : Elt F .f32 ← smemLoad arg3 (Rect.unit (s := S2x8) oc S1x1.size hc) numel1_S1x1 rfl
  let l1 : FVec F S8x256 .f32 ← Scf.Loop.for (k0_t1_loop i) (k0_t1_ok i) (sum0 (F := F)) (scoreTrip i arg6 arg10 v c)
  let l2 : FVec F S8x256 .f32 ← Scf.Loop.for (k0_t2_loop i) (k0_t2_ok i) l1 (scoreRest i arg6 arg10 v c)
  let kb : Vec F S1x256x128 .fp8e4m3 ← Prog.lift (.load arg6 (Rect.unit (s := S1x2048x128) (k0_off7 i) S1x256x128.size (k0_off7_inb i)).toLoadRect (View.loadsAt_vmem h_S1x256x128))
  let _ : Vec F S256x256 .f32 ← Prog.lift (.load arg10 (Rect.unit (s := S2048x256) (k0_off8 i) S256x256.size (k0_off8_inb i)).toLoadRect (View.loadsAt_vmem h_S256x256))
  Prog.lift (.store arg10 (Rect.unit (s := S2048x256) (k0_off8 i) S256x256.size (k0_off8_inb i)) (shapeCast S256x256 (diagTile v c kb) shapeCasts_S256x256_S256x256) Finset.univ (View.stores_vmem_bits_univ h_S256x256 rfl) (.inl rfl))
  let p1 : FVec F S128x256 .f32 ← Scf.Loop.for (k0_t3_loop i) (k0_t3_ok i) (acc0 (F := F)) (pvTrip i arg9 arg10 (recip (addf l2 (partSum (diagTile v c kb)))))
  let p2 : FVec F S128x256 .f32 ← Scf.Loop.for (k0_t4_loop i) (k0_t4_ok i) p1 (pvRest i arg9 arg10 (recip (addf l2 (partSum (diagTile v c kb)))))
  let _ : Vec F S1x256x128 .bf16 ← Prog.lift (.load arg8 (Rect.unit (s := S1x256x1024) oq S1x256x128.size hq).toLoadRect (View.loadsAt_vmem h_S1x256x128))
  Prog.lift (.store arg8 (Rect.unit (s := S1x256x1024) oq S1x256x128.size hq) (outTile s p2) Finset.univ hst (.inl rfl))
  pure ⟨⟩

/-- At the first query tile of a batch entry and key head, the values transposed into scratch. -/
def initVt (harg9 : arg9.IsWhole) : Prog (TpuEff nD τ sig (Elt F) Λ₀ .tc) PUnit :=
  let arg2 : BitVec 32 := BitVec.ofNat 32 (i 2).val
  let v0 : BitVec 1 := Scalar.cmpi .eq arg2 0#32
  let v1 : BitVec 32 := Scalar.extui v0
  let v2 : BitVec 1 := Scalar.cmpi .ne v1 0#32
  if k0_h1 : v2 = 1#1 then do
    let v440 : Vec F S1x2048x128 .fp8e4m3 ← Prog.lift (.load arg7 (Rect.unit (s := S1x2048x128) ![0, 0, 0] S1x2048x128.size inb_S1x2048x128_S1x2048x128_0_0_0).toLoadRect (View.loadsAt_vmem h_S1x2048x128))
    let _ : Vec F S128x2048 .fp8e4m3 ← Prog.lift (.load arg9 (Rect.unit (s := S128x2048) ![0, 0] S128x2048.size inb_S128x2048_S128x2048_0_0).toLoadRect (View.loadsAt_vmem h_S128x2048))
    Prog.lift (.store arg9 (Rect.unit (s := S128x2048) ![0, 0] S128x2048.size inb_S128x2048_S128x2048_0_0) (vtMat v440) Finset.univ (View.stores_vmem h_S128x2048 (harg9.storeExact_slice rfl _ packedfp8e4m3_S128x2048_S128x2048_0_0) (fun _ => rfl)) (.inl rfl))
    pure ⟨⟩
  else do
    pure ⟨⟩

/-- The body: the values transposed where due, the output's scale read, then the eight heads. -/
def body (harg8 : arg8.IsWhole) (harg9 : arg9.IsWhole) : Prog (TpuEff nD τ sig (Elt F) Λ₀ .tc) PUnit := do
  initVt i arg7 arg9 harg9
  let v7 : Elt F .f32 ← smemLoad arg4 (Rect.unit (s := S2) (k0_off1 i) S1.size (k0_off1_inb i)) numel1_S1 rfl
  head i arg3 arg5 arg6 arg8 arg9 arg10 (outScale v7) ![0, 0, 0] inb_S1x256x1024_S1x256x128_0_0_0 (k0_off2 i) (k0_off2_inb i) (View.stores_vmem h_S1x256x128 (harg8.storeExact_slice rfl _ packedbf16_S1x256x1024_S1x256x128_0_0_0) (fun _ => rfl))
  head i arg3 arg5 arg6 arg8 arg9 arg10 (outScale v7) ![0, 0, 128] inb_S1x256x1024_S1x256x128_0_0_128 (k0_off13 i) (k0_off13_inb i) (View.stores_vmem h_S1x256x128 (harg8.storeExact_slice rfl _ packedbf16_S1x256x1024_S1x256x128_0_0_128) (fun _ => rfl))
  head i arg3 arg5 arg6 arg8 arg9 arg10 (outScale v7) ![0, 0, 256] inb_S1x256x1024_S1x256x128_0_0_256 (k0_off22 i) (k0_off22_inb i) (View.stores_vmem h_S1x256x128 (harg8.storeExact_slice rfl _ packedbf16_S1x256x1024_S1x256x128_0_0_256) (fun _ => rfl))
  head i arg3 arg5 arg6 arg8 arg9 arg10 (outScale v7) ![0, 0, 384] inb_S1x256x1024_S1x256x128_0_0_384 (k0_off31 i) (k0_off31_inb i) (View.stores_vmem h_S1x256x128 (harg8.storeExact_slice rfl _ packedbf16_S1x256x1024_S1x256x128_0_0_384) (fun _ => rfl))
  head i arg3 arg5 arg6 arg8 arg9 arg10 (outScale v7) ![0, 0, 512] inb_S1x256x1024_S1x256x128_0_0_512 (k0_off40 i) (k0_off40_inb i) (View.stores_vmem h_S1x256x128 (harg8.storeExact_slice rfl _ packedbf16_S1x256x1024_S1x256x128_0_0_512) (fun _ => rfl))
  head i arg3 arg5 arg6 arg8 arg9 arg10 (outScale v7) ![0, 0, 640] inb_S1x256x1024_S1x256x128_0_0_640 (k0_off49 i) (k0_off49_inb i) (View.stores_vmem h_S1x256x128 (harg8.storeExact_slice rfl _ packedbf16_S1x256x1024_S1x256x128_0_0_640) (fun _ => rfl))
  head i arg3 arg5 arg6 arg8 arg9 arg10 (outScale v7) ![0, 0, 768] inb_S1x256x1024_S1x256x128_0_0_768 (k0_off58 i) (k0_off58_inb i) (View.stores_vmem h_S1x256x128 (harg8.storeExact_slice rfl _ packedbf16_S1x256x1024_S1x256x128_0_0_768) (fun _ => rfl))
  head i arg3 arg5 arg6 arg8 arg9 arg10 (outScale v7) ![0, 0, 896] inb_S1x256x1024_S1x256x128_0_0_896 (k0_off67 i) (k0_off67_inb i) (View.stores_vmem h_S1x256x128 (harg8.storeExact_slice rfl _ packedbf16_S1x256x1024_S1x256x128_0_0_896) (fun _ => rfl))

end

end Cert.Proof.KB

end
-- ==== Proof.BodyB.lean ====
/-
  The printed body of the kernel is the program of eight heads.
-/
module

public import proofs.«01_k».proof.Proof.HeadB

@[expose] public section

set_option maxRecDepth 16384

noncomputable section

namespace Cert.Proof.KB

open Cert.Kernel Cert.Kernel.Gen
open Idealize.ShloMosaic Idealize.SL.Sem

variable {F : FTy → Type} [FloatOps F]
variable (i : grid0.Coords) (arg3 : Memref sig .tc .smem S2x8 .f32) (harg3 : arg3.IsWhole) (arg4 : Memref sig .tc .smem S2 .f32) (harg4 : arg4.IsWhole)
  (arg5 : Memref sig .tc .vmem S1x256x1024 .fp8e4m3) (harg5 : arg5.IsWhole) (arg6 : Memref sig .tc .vmem S1x2048x128 .fp8e4m3) (harg6 : arg6.IsWhole)
  (arg7 : Memref sig .tc .vmem S1x2048x128 .fp8e4m3) (harg7 : arg7.IsWhole) (arg8 : Memref sig .tc .vmem S1x256x1024 .bf16) (harg8 : arg8.IsWhole)
  (arg9 : Memref sig .tc .vmem S128x2048 .fp8e4m3) (harg9 : arg9.IsWhole) (arg10 : Memref sig .tc .vmem S2048x256 .f32) (harg10 : arg10.IsWhole)

set_option maxHeartbeats 4000000 in
/-- The printed body is `body`. -/
theorem kernel_eq : cc0__attn_kernel (F := F) i arg3 harg3 arg4 harg4 arg5 harg5 arg6 harg6 arg7 harg7 arg8 harg8 arg9 harg9 arg10 harg10
    = body i arg3 arg4 arg5 arg6 arg7 arg8 arg9 arg10 harg8 harg9 := by
  rw [cc0__attn_kernel_eq_skeleton]
  unfold cc0__attn_kernel_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold body head initVt
  by_cases h : Scalar.cmpi .ne (Scalar.extui (Scalar.cmpi .eq (BitVec.ofNat 32 (i 2).val) 0#32) : BitVec 32) 0#32 = 1#1
  · simp only [dif_pos h, bind_assoc, pure_bind]
    iterate 2 refine bind_congr fun _ => ?_
    rfl
  · simp only [dif_neg h, bind_assoc, pure_bind]
    rfl

end Cert.Proof.KB

end
-- ==== Proof.Mem.lean ====
/-
  Loads and stores at the head of a program, stated on the values a memref reads: `rd` is the part of an array under a
  rectangle, `upd` the array with that part replaced.
-/
module

public import Idealize.ShloMosaic.Rules
public import Idealize.ShloMosaic.Lib.Tactic
public import Idealize.ShloMosaic.Lib.Pipeline.Kit

@[expose] public section

noncomputable section

namespace Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Pure
variable {s : Shape} {α : Type}

/-- The part of an array under a rectangle. -/
def rd (r : Rect s) (X : s.Idx → α) : r.shape.Idx → α := fun j => X (r.emb j)

open Classical in
/-- An array with its part under a rectangle replaced. -/
def upd (r : Rect s) (X : s.Idx → α) (w : r.shape.Idx → α) : s.Idx → α :=
  fun y => if h : ∃ j, r.emb j = y then w h.choose else X y

/-- Under the rectangle the new values stand. -/
theorem upd_emb (r : Rect s) (X : s.Idx → α) (w : r.shape.Idx → α) (j : r.shape.Idx) : upd r X w (r.emb j) = w j := by
  have h : ∃ j', r.emb j' = r.emb j := ⟨j, rfl⟩
  unfold upd
  rw [dif_pos h]
  exact congrArg w (r.emb.injective h.choose_spec)

/-- Elsewhere the old ones do. -/
theorem upd_of_not (r : Rect s) (X : s.Idx → α) (w : r.shape.Idx → α) (y : s.Idx) (h : ∀ j, r.emb j ≠ y) : upd r X w y = X y := by
  unfold upd
  rw [dif_neg (fun ⟨j, hj⟩ => h j hj)]

/-- What was just written is read. -/
theorem rd_upd (r : Rect s) (X : s.Idx → α) (w : r.shape.Idx → α) : rd r (upd r X w) = w := funext fun j => upd_emb r X w j

/-- A rectangle apart from the one written reads as before. -/
theorem rd_upd_of_disjoint (r r' : Rect s) (X : s.Idx → α) (w : r.shape.Idx → α) (h : ∀ j j', r.emb j ≠ r'.emb j') :
    rd r' (upd r X w) = rd r' X := funext fun j' => upd_of_not r X w _ (fun j => h j j')

/-- Where a unit-stride rectangle puts an index. -/
theorem unit_emb_val (off size : Fin s.rank → Nat) (h : ∀ a, off a + size a ≤ s.size a) (j : (Rect.unit off size h).shape.Idx) (a : Fin s.rank) :
    ((Rect.unit off size h).emb j a).val = off a + (j a).val := by
  rw [Rect.emb_apply]; show off a + 1 * _ = _; rw [Nat.one_mul]

/-- Equal offsets read the same, -/
theorem rd_unit_congr {off off' size : Fin s.rank → Nat} (h : off = off') (p : ∀ a, off a + size a ≤ s.size a) (p' : ∀ a, off' a + size a ≤ s.size a)
    (X : s.Idx → α) : (rd (Rect.unit off size p) X : (⟨s.rank, size⟩ : Shape).Idx → α) = rd (Rect.unit off' size p') X := by
  subst h; rfl

/-- and replace the same. -/
theorem upd_unit_congr {off off' size : Fin s.rank → Nat} (h : off = off') (p : ∀ a, off a + size a ≤ s.size a) (p' : ∀ a, off' a + size a ≤ s.size a)
    (X : s.Idx → α) (w : (⟨s.rank, size⟩ : Shape).Idx → α) : upd (Rect.unit off size p) X w = upd (Rect.unit off' size p') X w := by
  subst h; rfl

/-- The whole array as a rectangle is itself, -/
theorem full_emb (off : Fin s.rank → Nat) (h : ∀ a, off a + s.size a ≤ s.size a) (j : (Rect.unit off s.size h).shape.Idx) :
    (Rect.unit off s.size h).emb j = j := funext fun a => Fin.ext (by rw [unit_emb_val]; have := h a; omega)

/-- is read as it is, -/
theorem rd_full (off : Fin s.rank → Nat) (h : ∀ a, off a + s.size a ≤ s.size a) (X : s.Idx → α) : rd (Rect.unit off s.size h) X = X :=
  funext fun j => congrArg X (full_emb off h j)

/-- and replaced outright. -/
theorem upd_full (off : Fin s.rank → Nat) (h : ∀ a, off a + s.size a ≤ s.size a) (X : s.Idx → α) (w : (Rect.unit off s.size h).shape.Idx → α) :
    upd (Rect.unit off s.size h) X w = w :=
  funext fun y => (congrArg (upd _ X w) (full_emb off h y).symm).trans (upd_emb _ X w y)

end Pure

variable {nD : Nat} {τ : Topo} {sig : RefSig} {Ix : Type} [DecidableEq Ix]
variable {Val : EltTy → Type} {Name : Type} [DecidableEq Name] {U : Type} [URA U] {Lvl : Type} [Preorder Lvl] {Λ : Labels}
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load continues at the part of the array under its rectangle. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    owns c m q X ⊢ iprop((owns c m q X -∗ wp frame (wpE defs 𝒱 c bd) E (k (rd r X)) Q)
      -∗ wp frame (wpE defs 𝒱 c bd) E (Prog.lift (.load m r.toLoadRect hl) >>= k) Q) := by
  unfold owns
  iintro ⟨%f, %hf, H⟩ Hk
  subst hf
  iapply (wp_load_rect 𝒱 c bd E (View.set_slice_subset m.view r)) $$ H
  iintro H
  iapply Hk
  iexists f
  isplitr; · ipureintro; rfl
  iexact H

/-- A store of a whole rectangle continues with that part of the array replaced. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    owns c m fullShare X ⊢ iprop((owns c m fullShare (upd r X w) -∗ wp frame (wpE defs 𝒱 c bd) E (k ⟨⟩) Q)
      -∗ wp frame (wpE defs 𝒱 c bd) E (Prog.lift (.store m r w Finset.univ hx hm) >>= k) Q) := by
  unfold owns
  iintro ⟨%f, %hf, H⟩ Hk
  subst hf
  iapply (wp_store 𝒱 c bd E (View.set_slice_subset m.view r)) $$ H
  iintro H
  iapply Hk
  iexists _
  isplitr; swap; · iexact H
  ipureintro
  funext y
  by_cases h : ∃ j, r.emb j = y
  · obtain ⟨j, rfl⟩ := h
    rw [upd_emb]
    exact View.read_slice_write_emb r f w (Finset.mem_univ j)
  · rw [upd_of_not r _ w y (fun j hj => h ⟨j, hj⟩)]
    refine View.read_slice_write_of_not_mem r f w _ (fun hm => ?_)
    obtain ⟨j, -, hj⟩ := Finset.mem_map.mp hm
    exact h ⟨j, hj⟩

/-- A load of one word of scalar memory continues at that element. -/
theorem wp_smemLoad_owns {m : Memref sig c.2.kind .smem s e} {r : Rect s} {h1 : r.shape.numel = 1} {hp : e.packing = 1}
    {k : Val e → Prog (TpuEff nD τ sig Val Λ c.2) α} {q : PosShare TreeShare} {X : s.Idx → Val e} :
    owns c m q X ⊢ iprop((owns c m q X -∗ wp frame (wpE defs 𝒱 c bd) E (k (X (r.emb (Shape.Idx.first (h1.symm ▸ Nat.one_pos))))) Q)
      -∗ wp frame (wpE defs 𝒱 c bd) E (smemLoad m r h1 hp >>= k) Q) := by
  unfold owns
  iintro ⟨%f, %hf, H⟩ Hk
  subst hf
  iapply (wp_smemLoadElt 𝒱 c bd E (x := Shape.Idx.first (h1.symm ▸ Nat.one_pos)) (hw := View.loads_smem_one hp h1) (k := k) (View.set_slice_subset m.view r)) $$ H
  iintro H
  iapply Hk
  iexists f
  isplitr; · ipureintro; rfl
  iexact H

section Loops
universe u v
variable {w : Nat} {σ : Type} {E : Type → Type v}
variable {M : Type u} [URA M] {Mask : Sort*} (Fr : Mask → sProp M) (wpE : Mask → ∀ ⦃β : Type⦄, E β → sWPT M β) (Es : Mask)
variable [∀ ⦃β : Type⦄ (e : E β), sWPT.Frameable (wpE Es e)]

/-- A loop by an invariant over its trips. -/
theorem wp_loop (lb ub st : BitVec w) (hok : Scf.OK lb ub st) (init : σ) (body : Fin (Scf.trips lb ub st) → σ → Prog E σ) (n : Nat) (hn : Scf.trips lb ub st = n)
    (I : Nat → σ → sProp M) (hbody : ∀ (k : Fin (Scf.trips lb ub st)) (acc : σ), I k acc ⊢ wp Fr wpE Es (body k acc) (I (k.val + 1)))
    {β : Type} {kk : σ → Prog E β} {Q : β → sProp M} :
    iprop(I 0 init ∗ (∀ acc, I n acc -∗ wp Fr wpE Es (kk acc) Q)) ⊢ wp Fr wpE Es (Scf.for lb ub st hok init body >>= kk) Q := by
  subst hn
  rw [wp_bind]
  exact Scf.wp_for Fr wpE Es lb ub st hok init body I hbody

/-- A loop of no trips. -/
theorem wp_loop0 (lb ub st : BitVec w) (hok : Scf.OK lb ub st) (init : σ) (body : Fin (Scf.trips lb ub st) → σ → Prog E σ) (hn : Scf.trips lb ub st = 0)
    {β : Type} {kk : σ → Prog E β} {Q : β → sProp M} :
    wp Fr wpE Es (kk init) Q ⊢ wp Fr wpE Es (Scf.for lb ub st hok init body >>= kk) Q :=
  Scf.wp_for0_bind' Fr wpE Es lb ub st hok init body hn kk Q _ .rfl

end Loops

end Cert.Proof

end
-- ==== Proof.SpecB.lean ====
/-
  What one head leaves, as values of what its memrefs read, and the rule for running it.
-/
module

public import proofs.«01_k».proof.Proof.HeadB
public import proofs.«01_k».proof.Proof.Mem

@[expose] public section

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Trip counts -/

theorem trips1 (i : grid0.Coords) : (k0_t1_loop i).trips = (i 2).val := by revert i; decide +kernel
theorem trips2 (i : grid0.Coords) : (k0_t2_loop i).trips = 0 := by revert i; decide +kernel
theorem trips3 (i : grid0.Coords) : (k0_t3_loop i).trips = (i 2).val + 1 := by revert i; decide +kernel
theorem trips4 (i : grid0.Coords) : (k0_t4_loop i).trips = 0 := by revert i; decide +kernel
theorem i2_lt (i : grid0.Coords) : (i 2).val < 8 := (i 2).isLt

/-! ## The tiles -/

theorem kR_inb (j : Nat) : ∀ a, (![0, 256 * (j % 8), 0] : Fin 3 → Nat) a + S1x256x128.size a ≤ S1x2048x128.size a := by
  have := Nat.mod_lt j (by decide : 8 > 0)
  intro a; fin_cases a
  · show 0 + 1 ≤ 1; omega
  · show 256 * (j % 8) + 256 ≤ 2048; omega
  · show 0 + 128 ≤ 128; omega

theorem eR_inb (j : Nat) : ∀ a, (![256 * (j % 8), 0] : Fin 2 → Nat) a + S256x256.size a ≤ S2048x256.size a := by
  have := Nat.mod_lt j (by decide : 8 > 0)
  intro a; fin_cases a
  · show 256 * (j % 8) + 256 ≤ 2048; omega
  · show 0 + 256 ≤ 256; omega

theorem vR_inb (j : Nat) : ∀ a, (![0, 256 * (j % 8)] : Fin 2 → Nat) a + S128x256.size a ≤ S128x2048.size a := by
  have := Nat.mod_lt j (by decide : 8 > 0)
  intro a; fin_cases a
  · show 0 + 128 ≤ 128; omega
  · show 256 * (j % 8) + 256 ≤ 2048; omega

/-- Key tile `j` of the staged keys. -/
abbrev kR (j : Nat) : Rect S1x2048x128 := Rect.unit (s := S1x2048x128) ![0, 256 * (j % 8), 0] S1x256x128.size (kR_inb j)
/-- Rows of tile `j` in the exponentials' scratch. -/
abbrev eR (j : Nat) : Rect S2048x256 := Rect.unit (s := S2048x256) ![256 * (j % 8), 0] S256x256.size (eR_inb j)
/-- Columns of tile `j` of the transposed values. -/
abbrev vR (j : Nat) : Rect S128x2048 := Rect.unit (s := S128x2048) ![0, 256 * (j % 8)] S128x256.size (vR_inb j)

theorem off3_at (i : grid0.Coords) (t : Fin (k0_t1_loop i).trips) : k0_off3 i t = ![0, 256 * (t.val % 8), 0] := by
  have h := lt_of_lt_of_eq t.isLt (trips1 i); have := i2_lt i
  rw [k0_off3_eq, Nat.mod_eq_of_lt (by omega)]
theorem off4_at (i : grid0.Coords) (t : Fin (k0_t1_loop i).trips) : k0_off4 i t = ![256 * (t.val % 8), 0] := by
  have h := lt_of_lt_of_eq t.isLt (trips1 i); have := i2_lt i
  rw [k0_off4_eq, Nat.mod_eq_of_lt (by omega)]
theorem off7_at (i : grid0.Coords) : k0_off7 i = ![0, 256 * ((i 2).val % 8), 0] := by
  rw [k0_off7_eq, Nat.mod_eq_of_lt (i2_lt i)]
theorem off8_at (i : grid0.Coords) : k0_off8 i = ![256 * ((i 2).val % 8), 0] := by
  rw [k0_off8_eq, Nat.mod_eq_of_lt (i2_lt i)]
theorem off9_at (i : grid0.Coords) (t : Fin (k0_t3_loop i).trips) : k0_off9 i t = ![256 * (t.val % 8), 0] := by
  have h := lt_of_lt_of_eq t.isLt (trips3 i); have := i2_lt i
  rw [k0_off9_eq, Nat.mod_eq_of_lt (by omega)]
theorem off10_at (i : grid0.Coords) (t : Fin (k0_t3_loop i).trips) : k0_off10 i t = ![0, 256 * (t.val % 8)] := by
  have h := lt_of_lt_of_eq t.isLt (trips3 i); have := i2_lt i
  rw [k0_off10_eq, Nat.mod_eq_of_lt (by omega)]

/-- Two tiles' rows in the scratch are apart. -/
theorem eR_apart {j j' : Nat} (h : j < 8) (h' : j' < 8) (hne : j ≠ j') : ∀ x x', (eR j).emb x ≠ (eR j').emb x' := by
  intro x x' he
  have h0 : ((eR j).emb x 0).val = ((eR j').emb x' 0).val := by rw [he]
  have e1 : ((eR j).emb x 0).val = 256 * (j % 8) + (x 0).val := unit_emb_val _ _ _ x 0
  have e2 : ((eR j').emb x' 0).val = 256 * (j' % 8) + (x' 0).val := unit_emb_val _ _ _ x' 0
  rw [e1, e2, Nat.mod_eq_of_lt h, Nat.mod_eq_of_lt h'] at h0
  have l1 : (x 0).val < 256 := (x 0).isLt
  have l2 : (x' 0).val < 256 := (x' 0).isLt
  omega

/-! ## The values of one head -/

section
variable (v : Vec F S1x256x128 .fp8e4m3) (c : F .f32) (X6 : S1x2048x128.Idx → Elt F .fp8e4m3) (X9 : S128x2048.Idx → Elt F .fp8e4m3) (n : Nat)

/-- The exponentials of tile `j` for query tile `n`. -/
def eTile (j : Nat) : FVec F S256x256 .f32 := if j < n then scoreTile v c (rd (kR j) X6) else diagTile v c (rd (kR j) X6)

/-- As they stand in the scratch. -/
def eKept (j : Nat) : Vec F S256x256 .f32 := shapeCast S256x256 (eTile v c X6 n j) shapeCasts_S256x256_S256x256

/-- The sums after `j` tiles. -/
def lSum : Nat → FVec F S8x256 .f32
  | 0 => sum0
  | j + 1 => addf (lSum j) (partSum (eTile v c X6 n j))

/-- The product with the values after `j` tiles. -/
def pSum (r : FVec F S1x256 .f32) : Nat → FVec F S128x256 .f32
  | 0 => acc0
  | j + 1 => pvStep r (pSum r j) (eKept v c X6 n j) (rd (vR j) X9)

/-- What the head stores. -/
def headOut (s : F .f32) : FVec F S1x256x128 .bf16 := outTile s (pSum v c X6 X9 n (recip (lSum v c X6 n (n + 1))) (n + 1))

end

local notation "𝕄" => MT nD τ sig Unit (Elt F) ℕ (UR sig nD τ) ℕ

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)

/-- The word of the table at two offsets. -/
def word2 (X3 : S2x8.Idx → Elt F .f32) (oc : Fin 2 → Nat) (hc : ∀ a, oc a + S1x1.size a ≤ S2x8.size a) : F .f32 :=
  X3 ((Rect.unit (s := S2x8) oc S1x1.size hc).emb (Shape.Idx.first (numel1_S1x1.symm ▸ Nat.one_pos)))

/-- Between trips of the first loop: the tiles before stand in the scratch, their sums are carried. -/
def loop1 (d : Dev nD) (v : Vec F S1x256x128 .fp8e4m3) (c : F .f32) (X6 : S1x2048x128.Idx → Elt F .fp8e4m3) (n : Nat) (j : Nat) (acc : FVec F S8x256 .f32) : sProp 𝕄 :=
  iprop(owns (d : Thread nD τ) arg6 fullShare X6 ∗ ∃ X10, owns (d : Thread nD τ) arg10 fullShare X10
    ∗ ⌜acc = lSum v c X6 n j ∧ ∀ j' < j, rd (eR j') X10 = eKept v c X6 n j'⌝)

/-- One trip of it. -/
theorem score_trip (d : Dev nD) (v : Vec F S1x256x128 .fp8e4m3) (c : F .f32) (X6 : S1x2048x128.Idx → Elt F .fp8e4m3)
    (t : Fin (k0_t1_loop i).trips) (acc : FVec F S8x256 .f32) :
    loop1 arg6 arg10 d v c X6 (i 2).val t.val acc ⊢ wp frame (wpE (defs₀ (F := F)) Variants.none d none) Set.univ
      (scoreTrip i arg6 arg10 v c t acc) (loop1 arg6 arg10 d v c X6 (i 2).val (t.val + 1)) := by
  have ht := lt_of_lt_of_eq t.isLt (trips1 i)
  have hn := i2_lt i
  unfold scoreTrip
  unfold loop1
  iintro ⟨H6, ⟨%X10, H10, %hX⟩⟩
  obtain ⟨rfl, hX⟩ := hX
  iapply (wp_load_owns Variants.none (d : Thread nD τ) none Set.univ) $$ H6
  iintro H6
  iapply (wp_load_owns Variants.none (d : Thread nD τ) none Set.univ) $$ H10
  iintro H10
  iapply (wp_store_owns Variants.none (d : Thread nD τ) none Set.univ) $$ H10
  iintro H10
  rw [rd_unit_congr (off3_at i t) (k0_off3_inb i t) (kR_inb t.val), upd_unit_congr (off4_at i t) (k0_off4_inb i t) (eR_inb t.val)]
  sl_step
  isplitl [H6]; · iexact H6
  iexists _
  isplitl [H10]; · iexact H10
  ipureintro
  have he : eTile v c X6 (i 2).val t.val = scoreTile v c (rd (kR t.val) X6) := if_pos ht
  refine ⟨?_, fun j' hj' => ?_⟩
  · show _ = addf _ _
    rw [he]
  · rcases Nat.lt_succ_iff_lt_or_eq.mp hj' with h | h
    · rw [rd_upd_of_disjoint _ _ _ _ (eR_apart (by omega) (by omega) (by omega))]
      exact hX j' h
    · subst h
      rw [rd_upd]
      unfold eKept
      rw [he]

/-- Between trips of the second loop: the tiles stand in the scratch, the product so far is carried. -/
def loop2 (d : Dev nD) (v : Vec F S1x256x128 .fp8e4m3) (c : F .f32) (X6 : S1x2048x128.Idx → Elt F .fp8e4m3) (X9 : S128x2048.Idx → Elt F .fp8e4m3)
    (n : Nat) (r : FVec F S1x256 .f32) (j : Nat) (acc : FVec F S128x256 .f32) : sProp 𝕄 :=
  iprop(owns (d : Thread nD τ) arg9 fullShare X9 ∗ ∃ X10, owns (d : Thread nD τ) arg10 fullShare X10
    ∗ ⌜acc = pSum v c X6 X9 n r j ∧ ∀ j' < n + 1, rd (eR j') X10 = eKept v c X6 n j'⌝)

/-- One trip of it. -/
theorem pv_trip (d : Dev nD) (v : Vec F S1x256x128 .fp8e4m3) (c : F .f32) (X6 : S1x2048x128.Idx → Elt F .fp8e4m3) (X9 : S128x2048.Idx → Elt F .fp8e4m3)
    (r : FVec F S1x256 .f32) (t : Fin (k0_t3_loop i).trips) (acc : FVec F S128x256 .f32) :
    loop2 arg9 arg10 d v c X6 X9 (i 2).val r t.val acc ⊢ wp frame (wpE (defs₀ (F := F)) Variants.none d none) Set.univ
      (pvTrip i arg9 arg10 r t acc) (loop2 arg9 arg10 d v c X6 X9 (i 2).val r (t.val + 1)) := by
  have ht := lt_of_lt_of_eq t.isLt (trips3 i)
  unfold pvTrip
  unfold loop2
  iintro ⟨H9, ⟨%X10, H10, %hX⟩⟩
  obtain ⟨rfl, hX⟩ := hX
  iapply (wp_load_owns Variants.none (d : Thread nD τ) none Set.univ) $$ H10
  iintro H10
  iapply (wp_load_owns Variants.none (d : Thread nD τ) none Set.univ) $$ H9
  iintro H9
  rw [rd_unit_congr (off9_at i t) (k0_off9_inb i t) (eR_inb t.val), rd_unit_congr (s := S128x2048) (size := S128x256.size) (off10_at i t) (k0_off10_inb i t) (vR_inb t.val), hX t.val ht]
  sl_step
  isplitl [H9]; · iexact H9
  iexists _
  isplitl [H10]; · iexact H10
  ipureintro
  exact ⟨rfl, hX⟩

set_option maxHeartbeats 1000000 in
/-- The rule of one head: from its memrefs at what they read, the scratch at anything, it runs on to its continuation with its
    columns of the result at `headOut`. -/
theorem head_spec (d : Dev nD) (s : F .f32) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ)
    (X3 : S2x8.Idx → Elt F .f32) (X5 : S1x256x1024.Idx → Elt F .fp8e4m3) (X6 : S1x2048x128.Idx → Elt F .fp8e4m3)
    (X8 : S1x256x1024.Idx → Elt F .bf16) (X9 : S128x2048.Idx → Elt F .fp8e4m3)
    {β : Type} (k : PUnit → Prog (TpuEff nD τ sig (Elt F) Λ₀ .tc) β) (Q : β → sProp 𝕄) :
    iprop(owns (d : Thread nD τ) arg3 fullShare X3 ∗ owns (d : Thread nD τ) arg5 fullShare X5 ∗ owns (d : Thread nD τ) arg6 fullShare X6
      ∗ owns (d : Thread nD τ) arg8 fullShare X8 ∗ owns (d : Thread nD τ) arg9 fullShare X9 ∗ (∃ X, owns (d : Thread nD τ) arg10 fullShare X)
      ∗ (iprop(owns (d : Thread nD τ) arg3 fullShare X3 ∗ owns (d : Thread nD τ) arg5 fullShare X5 ∗ owns (d : Thread nD τ) arg6 fullShare X6
          ∗ owns (d : Thread nD τ) arg8 fullShare (upd (Rect.unit (s := S1x256x1024) oq S1x256x128.size hq) X8
              (headOut (rd (Rect.unit (s := S1x256x1024) oq S1x256x128.size hq) X5) (word2 X3 oc hc) X6 X9 (i 2).val s))
          ∗ owns (d : Thread nD τ) arg9 fullShare X9 ∗ (∃ X, owns (d : Thread nD τ) arg10 fullShare X))
        -∗ wp frame (wpE (defs₀ (F := F)) Variants.none d none) Set.univ (k ⟨⟩) Q))
    ⊢ wp frame (wpE (defs₀ (F := F)) Variants.none d none) Set.univ
        (head i arg3 arg5 arg6 arg8 arg9 arg10 s oq hq oc hc hst >>= k) Q := by
  unfold head Scf.Loop.for
  simp only [bind_assoc, pure_bind]
  iintro ⟨H3, H5, H6, H8, H9, ⟨%X10, H10⟩, Hk⟩
  iapply (wp_load_owns Variants.none (d : Thread nD τ) none Set.univ) $$ H5
  iintro H5
  iapply (wp_smemLoad_owns Variants.none (d : Thread nD τ) none Set.univ) $$ H3
  iintro H3
  generalize hv : rd (Rect.unit (s := S1x256x1024) oq S1x256x128.size hq) X5 = v
  rw [show X3 ((Rect.unit (s := S2x8) oc S1x1.size hc).emb (Shape.Idx.first (numel1_S1x1.symm ▸ Nat.one_pos))) = word2 X3 oc hc from rfl]
  generalize hcc : word2 X3 oc hc = c
  have hn := i2_lt i
  iapply (wp_loop _ _ _ _ _ _ _ _ _ (i 2).val (trips1 i) (loop1 arg6 arg10 d v c X6 (i 2).val) (fun t acc => score_trip i arg6 arg10 d v c X6 t acc))
  isplitl [H6 H10]
  · unfold loop1
    isplitl [H6]; · iexact H6
    iexists X10
    isplitl [H10]; · iexact H10
    ipureintro
    exact ⟨rfl, fun j' h => absurd h (Nat.not_lt_zero _)⟩
  iintro %l1 HI
  unfold loop1
  icases HI with ⟨H6, ⟨%X11, H10, %hX⟩⟩
  obtain ⟨rfl, hX⟩ := hX
  iapply (wp_loop0 _ _ _ _ _ _ _ _ _ (trips2 i))
  iapply (wp_load_owns Variants.none (d : Thread nD τ) none Set.univ) $$ H6
  iintro H6
  iapply (wp_load_owns Variants.none (d : Thread nD τ) none Set.univ) $$ H10
  iintro H10
  iapply (wp_store_owns Variants.none (d : Thread nD τ) none Set.univ) $$ H10
  iintro H10
  rw [rd_unit_congr (off7_at i) (k0_off7_inb i) (kR_inb (i 2).val), upd_unit_congr (s := S2048x256) (size := S256x256.size) (off8_at i) (k0_off8_inb i) (eR_inb (i 2).val)]
  have he : eTile v c X6 (i 2).val (i 2).val = diagTile v c (rd (kR (i 2).val) X6) := if_neg (Nat.lt_irrefl _)
  rw [← he]
  have hY : ∀ j' < (i 2).val + 1, rd (eR j') (upd (eR (i 2).val) X11 (eKept v c X6 (i 2).val (i 2).val)) = eKept v c X6 (i 2).val j' := fun j' hj' => by
    rcases Nat.lt_succ_iff_lt_or_eq.mp hj' with h | h
    · rw [rd_upd_of_disjoint _ _ _ _ (eR_apart (by omega) (by omega) (by omega))]
      exact hX j' h
    · subst h
      exact rd_upd _ _ _
  change _ at hY
  rw [show shapeCast S256x256 (eTile v c X6 (i 2).val (i 2).val) shapeCasts_S256x256_S256x256 = eKept v c X6 (i 2).val (i 2).val from rfl,
    show addf (lSum v c X6 (i 2).val (i 2).val) (partSum (eTile v c X6 (i 2).val (i 2).val)) = lSum v c X6 (i 2).val ((i 2).val + 1) from rfl]
  generalize upd (eR (i 2).val) X11 (eKept v c X6 (i 2).val (i 2).val) = Y at hY
  generalize hr : recip (lSum v c X6 (i 2).val ((i 2).val + 1)) = r
  iapply (wp_loop _ _ _ _ _ _ _ _ _ ((i 2).val + 1) (trips3 i) (loop2 arg9 arg10 d v c X6 X9 (i 2).val r) (fun t acc => pv_trip i arg9 arg10 d v c X6 X9 r t acc))
  isplitl [H9 H10]
  · unfold loop2
    isplitl [H9]; · iexact H9
    iexists Y
    isplitl [H10]; · iexact H10
    ipureintro
    exact ⟨rfl, hY⟩
  iintro %p1 HI
  unfold loop2
  icases HI with ⟨H9, ⟨%X12, H10, %hZ⟩⟩
  obtain ⟨rfl, -⟩ := hZ
  iapply (wp_loop0 _ _ _ _ _ _ _ _ _ (trips4 i))
  iapply (wp_load_owns Variants.none (d : Thread nD τ) none Set.univ) $$ H8
  iintro H8
  iapply (wp_store_owns Variants.none (d : Thread nD τ) none Set.univ) $$ H8
  iintro H8
  iapply Hk
  isplitl [H3]; · iexact H3
  isplitl [H5]; · iexact H5
  isplitl [H6]; · iexact H6
  isplitl [H8]
  · rw [show headOut v c X6 X9 (i 2).val s = outTile s (pSum v c X6 X9 (i 2).val r ((i 2).val + 1)) from by rw [← hr]; rfl]
    iexact H8
  isplitl [H9]; · iexact H9
  iexists _; iexact H10

end

end Cert.Proof.KB

end
-- ==== Proof.RunB.lean ====
/-
  What the body leaves at one grid point, and the rule for running it.
-/
module

public import proofs.«01_k».proof.Proof.SpecB

@[expose] public section

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem oR_inb (g : Nat) : ∀ a, (![0, 0, 128 * (g % 8)] : Fin 3 → Nat) a + S1x256x128.size a ≤ S1x256x1024.size a := by
  have := Nat.mod_lt g (by decide : 8 > 0)
  intro a; fin_cases a
  · show 0 + 1 ≤ 1; omega
  · show 0 + 256 ≤ 256; omega
  · show 128 * (g % 8) + 128 ≤ 1024; omega

theorem cR_inb (b : Fin 2) (g : Nat) : ∀ a, (![b.val, g % 8] : Fin 2 → Nat) a + S1x1.size a ≤ S2x8.size a := by
  have := Nat.mod_lt g (by decide : 8 > 0)
  have := b.isLt
  intro a; fin_cases a
  · show b.val + 1 ≤ 2; omega
  · show g % 8 + 1 ≤ 8; omega

/-- Head `g`'s columns of the queries and of the result. -/
abbrev oR (g : Nat) : Rect S1x256x1024 := Rect.unit (s := S1x256x1024) ![0, 0, 128 * (g % 8)] S1x256x128.size (oR_inb g)

theorem oR_apart {j j' : Nat} (h : j < 8) (h' : j' < 8) (hne : j ≠ j') : ∀ x x', (oR j).emb x ≠ (oR j').emb x' := by
  intro x x' he
  have h0 : ((oR j).emb x 2).val = ((oR j').emb x' 2).val := by rw [he]
  have e1 : ((oR j).emb x 2).val = 128 * (j % 8) + (x 2).val := unit_emb_val _ _ _ x 2
  have e2 : ((oR j').emb x' 2).val = 128 * (j' % 8) + (x' 2).val := unit_emb_val _ _ _ x' 2
  rw [e1, e2, Nat.mod_eq_of_lt h, Nat.mod_eq_of_lt h'] at h0
  have l1 : (x 2).val < 128 := (x 2).isLt
  have l2 : (x' 2).val < 128 := (x' 2).isLt
  omega

/-- The first query tile is where the values are transposed. -/
theorem first_iff (i : grid0.Coords) :
    Scalar.cmpi .ne (Scalar.extui (Scalar.cmpi .eq (BitVec.ofNat 32 (i 2).val) 0#32) : BitVec 32) 0#32 = 1#1 ↔ (i 2).val = 0 := by
  revert i; decide +kernel

section
variable (i : grid0.Coords) (X3 : S2x8.Idx → Elt F .f32) (X4 : S2.Idx → Elt F .f32) (X5 : S1x256x1024.Idx → Elt F .fp8e4m3)
  (X6 : S1x2048x128.Idx → Elt F .fp8e4m3) (X9 : S128x2048.Idx → Elt F .fp8e4m3)

/-- The score factor of head `g`. -/
def cWord (g : Nat) : F .f32 := word2 X3 ![(i 1).val, g % 8] (cR_inb (i 1) g)

/-- The values' scale. -/
def sWord : F .f32 := X4 ((Rect.unit (s := S2) (k0_off1 i) S1.size (k0_off1_inb i)).emb (Shape.Idx.first (numel1_S1.symm ▸ Nat.one_pos)))

/-- Head `g`'s result. -/
def hOut (g : Nat) : FVec F S1x256x128 .bf16 := headOut (rd (oR g) X5) (cWord i X3 g) X6 X9 (i 2).val (outScale (sWord i X4))

/-- The result at a grid point: each column is its head's. -/
def blockOut : S1x256x1024.Idx → Elt F .bf16 := fun y =>
  hOut i X3 X4 X5 X6 X9 ((y 2).val / 128) (Fin.cons (y 0) (Fin.cons (y 1) (Fin.cons ⟨(y 2).val % 128, Nat.mod_lt _ (by decide)⟩ (fun k => k.elim0))))

/-- An array every head's columns of which are its result is the result. -/
theorem eq_blockOut (X : S1x256x1024.Idx → Elt F .bf16) (h : ∀ g < 8, rd (oR g) X = hOut i X3 X4 X5 X6 X9 g) : X = blockOut i X3 X4 X5 X6 X9 := by
  funext y
  have hy : (y 2).val < 1024 := (y 2).isLt
  have hg : (y 2).val / 128 < 8 := by omega
  rw [blockOut, ← h _ hg]
  unfold rd
  congr 1
  funext a
  apply Fin.ext
  rw [unit_emb_val]
  fin_cases a
  · exact (Nat.zero_add _).symm
  · exact (Nat.zero_add _).symm
  · show (y 2).val = 128 * ((y 2).val / 128 % 8) + (y 2).val % 128
    rw [Nat.mod_eq_of_lt hg]; omega

end

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)
  (d : Dev nD) (X3 : S2x8.Idx → Elt F .f32) (X4 : S2.Idx → Elt F .f32) (X5 : S1x256x1024.Idx → Elt F .fp8e4m3)
  (X6 : S1x2048x128.Idx → Elt F .fp8e4m3) (X9 : S128x2048.Idx → Elt F .fp8e4m3)

/-- Between heads: those before have their columns of the result. -/
def between (g : Nat) : sProp 𝕄 :=
  iprop(owns (d : Thread nD τ) arg3 fullShare X3 ∗ owns (d : Thread nD τ) arg5 fullShare X5 ∗ owns (d : Thread nD τ) arg6 fullShare X6
    ∗ (∃ X8, owns (d : Thread nD τ) arg8 fullShare X8 ∗ ⌜∀ g' < g, rd (oR g') X8 = hOut i X3 X4 X5 X6 X9 g'⌝)
    ∗ owns (d : Thread nD τ) arg9 fullShare X9 ∗ (∃ X, owns (d : Thread nD τ) arg10 fullShare X))

/-- One head takes `between g` to `between (g + 1)`. -/
theorem head_step (g : Nat) (hg : g < 8) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ)
    (hoq : oq = ![0, 0, 128 * (g % 8)]) (hoc : oc = ![(i 1).val, g % 8])
    {β : Type} (k : PUnit → Prog (TpuEff nD τ sig (Elt F) Λ₀ .tc) β) (Q : β → sProp 𝕄) :
    iprop(between i arg3 arg5 arg6 arg8 arg9 arg10 d X3 X4 X5 X6 X9 g
      ∗ (between i arg3 arg5 arg6 arg8 arg9 arg10 d X3 X4 X5 X6 X9 (g + 1) -∗ wp frame (wpE (defs₀ (F := F)) Variants.none d none) Set.univ (k ⟨⟩) Q))
    ⊢ wp frame (wpE (defs₀ (F := F)) Variants.none d none) Set.univ
        (head i arg3 arg5 arg6 arg8 arg9 arg10 (outScale (sWord i X4)) oq hq oc hc hst >>= k) Q := by
  subst hoq hoc
  unfold between
  iintro ⟨⟨H3, H5, H6, ⟨%X8, H8, %hX⟩, H9, H10⟩, Hk⟩
  iapply (head_spec i arg3 arg5 arg6 arg8 arg9 arg10 d (outScale (sWord i X4)) _ hq _ hc hst X3 X5 X6 X8 X9 k Q)
  isplitl [H3]; · iexact H3
  isplitl [H5]; · iexact H5
  isplitl [H6]; · iexact H6
  isplitl [H8]; · iexact H8
  isplitl [H9]; · iexact H9
  isplitl [H10]; · iexact H10
  iintro ⟨H3, H5, H6, H8, H9, H10⟩
  iapply Hk
  isplitl [H3]; · iexact H3
  isplitl [H5]; · iexact H5
  isplitl [H6]; · iexact H6
  isplitl [H8]
  · iexists _
    isplitl [H8]; · iexact H8
    ipureintro
    intro g' hg'
    rcases Nat.lt_succ_iff_lt_or_eq.mp hg' with h | h
    · rw [rd_upd_of_disjoint _ _ _ _ (oR_apart (by omega) (by omega) (by omega))]
      exact hX g' h
    · subst h
      exact rd_upd _ _ _
  isplitl [H9]; · iexact H9
  iexact H10

/-- The values' scratch when the body starts: past the first query tile it holds the transposed values. -/
def vtKept (X7 : S1x2048x128.Idx → Elt F .fp8e4m3) : sProp 𝕄 :=
  iprop(∃ X, owns (d : Thread nD τ) arg9 fullShare X ∗ ⌜(i 2).val ≠ 0 → X = vtMat X7⌝)

/-- The transposition where due leaves the transposed values in scratch. -/
theorem init_spec (harg9 : arg9.IsWhole) (X7 : S1x2048x128.Idx → Elt F .fp8e4m3)
    {β : Type} (k : PUnit → Prog (TpuEff nD τ sig (Elt F) Λ₀ .tc) β) (Q : β → sProp 𝕄) :
    iprop(owns (d : Thread nD τ) arg7 fullShare X7 ∗ vtKept i arg9 d X7
      ∗ (iprop(owns (d : Thread nD τ) arg7 fullShare X7 ∗ owns (d : Thread nD τ) arg9 fullShare (vtMat X7))
          -∗ wp frame (wpE (defs₀ (F := F)) Variants.none d none) Set.univ (k ⟨⟩) Q))
    ⊢ wp frame (wpE (defs₀ (F := F)) Variants.none d none) Set.univ (initVt i arg7 arg9 harg9 >>= k) Q := by
  unfold initVt vtKept
  iintro ⟨H7, ⟨%X, H9, %hX⟩, Hk⟩
  by_cases h : (i 2).val = 0
  · simp only [dif_pos ((first_iff i).mpr h), bind_assoc, pure_bind]
    iapply (wp_load_owns Variants.none (d : Thread nD τ) none Set.univ) $$ H7
    iintro H7
    iapply (wp_load_owns Variants.none (d : Thread nD τ) none Set.univ) $$ H9
    iintro H9
    iapply (wp_store_owns Variants.none (d : Thread nD τ) none Set.univ) $$ H9
    iintro H9
    iapply Hk
    isplitl [H7]; · iexact H7
    rw [upd_full, rd_full]
    iexact H9
  · simp only [dif_neg (fun h' => h ((first_iff i).mp h')), pure_bind]
    iapply Hk
    isplitl [H7]; · iexact H7
    rw [← hX h]
    iexact H9

set_option maxHeartbeats 1000000 in
/-- The rule of the body: the result's block at `blockOut`, the scratch at the transposed values, everything read as it was. -/
theorem body_spec (harg8 : arg8.IsWhole) (harg9 : arg9.IsWhole) (X7 : S1x2048x128.Idx → Elt F .fp8e4m3) (Q : PUnit → sProp 𝕄) :
    iprop(owns (d : Thread nD τ) arg3 fullShare X3 ∗ owns (d : Thread nD τ) arg4 fullShare X4 ∗ owns (d : Thread nD τ) arg5 fullShare X5
      ∗ owns (d : Thread nD τ) arg6 fullShare X6 ∗ owns (d : Thread nD τ) arg7 fullShare X7 ∗ (∃ X, owns (d : Thread nD τ) arg8 fullShare X)
      ∗ vtKept i arg9 d X7 ∗ (∃ X, owns (d : Thread nD τ) arg10 fullShare X)
      ∗ (iprop(owns (d : Thread nD τ) arg3 fullShare X3 ∗ owns (d : Thread nD τ) arg4 fullShare X4 ∗ owns (d : Thread nD τ) arg5 fullShare X5
          ∗ owns (d : Thread nD τ) arg6 fullShare X6 ∗ owns (d : Thread nD τ) arg7 fullShare X7
          ∗ owns (d : Thread nD τ) arg8 fullShare (blockOut i X3 X4 X5 X6 (vtMat X7))
          ∗ owns (d : Thread nD τ) arg9 fullShare (vtMat X7) ∗ (∃ X, owns (d : Thread nD τ) arg10 fullShare X)) -∗ Q ⟨⟩))
    ⊢ wp frame (wpE (defs₀ (F := F)) Variants.none d none) Set.univ (body i arg3 arg4 arg5 arg6 arg7 arg8 arg9 arg10 harg8 harg9) Q := by
  iintro ⟨H3, H4, H5, H6, H7, ⟨%X8, H8⟩, H9, H10, Hk⟩
  unfold body
  iapply (init_spec i arg7 arg9 d harg9 X7)
  isplitl [H7]; · iexact H7
  isplitl [H9]; · iexact H9
  iintro ⟨H7, H9⟩
  iapply (wp_smemLoad_owns Variants.none (d : Thread nD τ) none Set.univ) $$ H4
  iintro H4
  ihave HB : between i arg3 arg5 arg6 arg8 arg9 arg10 d X3 X4 X5 X6 (vtMat X7) 0 $$ [H3 H5 H6 H8 H9 H10]
  · unfold between
    isplitl [H3]; · iexact H3
    isplitl [H5]; · iexact H5
    isplitl [H6]; · iexact H6
    isplitl [H8]
    · iexists X8
      isplitl [H8]; · iexact H8
      ipureintro
      exact fun _ h => absurd h (Nat.not_lt_zero _)
    isplitl [H9]; · iexact H9
    iexact H10
  iapply (head_step i arg3 arg5 arg6 arg8 arg9 arg10 d X3 X4 X5 X6 (vtMat X7) 0 (by decide) _ _ _ _ _ rfl (k0_off2_eq i))
  isplitl [HB]; · iexact HB
  iintro HB
  iapply (head_step i arg3 arg5 arg6 arg8 arg9 arg10 d X3 X4 X5 X6 (vtMat X7) 1 (by decide) _ _ _ _ _ rfl (k0_off13_eq i))
  isplitl [HB]; · iexact HB
  iintro HB
  iapply (head_step i arg3 arg5 arg6 arg8 arg9 arg10 d X3 X4 X5 X6 (vtMat X7) 2 (by decide) _ _ _ _ _ rfl (k0_off22_eq i))
  isplitl [HB]; · iexact HB
  iintro HB
  iapply (head_step i arg3 arg5 arg6 arg8 arg9 arg10 d X3 X4 X5 X6 (vtMat X7) 3 (by decide) _ _ _ _ _ rfl (k0_off31_eq i))
  isplitl [HB]; · iexact HB
  iintro HB
  iapply (head_step i arg3 arg5 arg6 arg8 arg9 arg10 d X3 X4 X5 X6 (vtMat X7) 4 (by decide) _ _ _ _ _ rfl (k0_off40_eq i))
  isplitl [HB]; · iexact HB
  iintro HB
  iapply (head_step i arg3 arg5 arg6 arg8 arg9 arg10 d X3 X4 X5 X6 (vtMat X7) 5 (by decide) _ _ _ _ _ rfl (k0_off49_eq i))
  isplitl [HB]; · iexact HB
  iintro HB
  iapply (head_step i arg3 arg5 arg6 arg8 arg9 arg10 d X3 X4 X5 X6 (vtMat X7) 6 (by decide) _ _ _ _ _ rfl (k0_off58_eq i))
  isplitl [HB]; · iexact HB
  iintro HB
  rw [← bind_pure (head i arg3 arg5 arg6 arg8 arg9 arg10 _ ![0, 0, 896] _ _ _ _)]
  iapply (head_step i arg3 arg5 arg6 arg8 arg9 arg10 d X3 X4 X5 X6 (vtMat X7) 7 (by decide) _ _ _ _ _ rfl (k0_off67_eq i))
  isplitl [HB]; · iexact HB
  iintro HB
  unfold between
  icases HB with ⟨H3, H5, H6, ⟨%X8', H8, %hX⟩, H9, H10⟩
  rw [← eq_blockOut i X3 X4 X5 X6 (vtMat X7) X8' hX]
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

end Cert.Proof.KB

end
-- ==== Proof.FrameB.lean ====
/-
  The kernel's run: what each window's buffer holds at each grid point, that the body does it, the launch and the frame.
-/
module

public import proofs.«01_k».proof.Proof.BodyB
public import proofs.«01_k».proof.Proof.RunB
public import proofs.«01_k».proof.Proof.Gen.Kernel.Frame
public import Idealize.ShloMosaic.Lib.Claim

@[expose] public section

set_option maxRecDepth 16384

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's block at point `t`. -/
def outAt (c : Dev nD) (t : Fin cfg0.N) : S1x256x1024.Idx → Elt F .bf16 :=
  blockOut (grid0.coords t) (iblk m c 0 t) (iblk m c 1 t) (iblk m c 2 t) (iblk m c 3 t) (vtMat (iblk m c 4 t))

/-- The scratch buffers before point `n`: the scores' holds anything, the transposed values' holds those of the point's
    block unless the point is the first query tile; and the generator register holds anything. -/
def scr (c : Dev nD) (n : Nat) : sProp 𝕄 :=
  iprop((∃ X, owns (c : Thread nD τ) (Memref.whole cc0_scratch0) fullShare X
      ∗ ⌜∀ t : Fin cfg0.N, t.val = n → (grid0.coords t 2).val ≠ 0 → X = vtMat (iblk m c 4 t)⌝)
    ∗ (∃ X, owns (c : Thread nD τ) (Memref.whole cc0_scratch1) fullShare X) ∗ (∃ r, prngReg c r))

/-- The pipeline's proof data: the arrays as the region finds them, each input's buffer its block, the result's what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := scr m c t.val
  q _ := fullShare
  owed _ := 0

/-- The arrays are the contents at the region's entry. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem Φ_eq (c : Dev nD) (t : Fin (cfg0.N + 1)) : (dats m 0 c).Φ t = scr m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The values' block does not move from one query tile to the next. -/
theorem index4_next : ∀ t t' : Fin grid0.N, t'.val = t.val + 1 → (grid0.coords t' 2).val ≠ 0 →
    cc0_transform_4 (grid0.coords t) = cc0_transform_4 (grid0.coords t') := by
  decide +kernel

theorem fetched4 (c : Dev nD) (t : Fin cfg0.N) (d) : (dats m 0 c).fetched 4 t d = iblk m c 4 t := by
  unfold Dat.fetched Dat.blockOf iblk; rw [A_eq]; try rfl

/-- So its contents stay. -/
theorem iblk4_next (c : Dev nD) (t t' : Fin cfg0.N) (h : t'.val = t.val + 1) (h0 : (grid0.coords t' 2).val ≠ 0) :
    iblk m c 4 t = iblk m c 4 t' := by
  rw [← fetched4 m c t (iblk m c 4 t), ← fetched4 m c t' (iblk m c 4 t)]
  exact (dats m 0 c).fetched_congr 4 (index4_next t t' h h0) rfl _

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [kernel_eq]
  simp only [before0, before1, before2, before3, before4]
  rw [show (dats m 0 c).owesAt () t.succ = (dats m 0 c).owesAt () t.castSucc from rfl,
    Φ_eq, Φ_eq, after0, after1, after2, after3, after4, after5]
  simp only [Fin.val_castSucc, Fin.val_succ]
  unfold scr outAt
  iintro ⟨⟨⟨%X9, H9, %hX⟩, HS, Hr⟩, Ho, ⟨%d0, H0⟩, ⟨%d1, H1⟩, ⟨%d2, H2⟩, ⟨%d3, H3⟩, ⟨%d4, H4⟩, ⟨%d5, H5⟩⟩
  iapply (body_spec (grid0.coords t) _ _ _ _ _ _ (Memref.whole cc0_scratch0) (Memref.whole cc0_scratch1) c
    (iblk m c 0 t) (iblk m c 1 t) (iblk m c 2 t) (iblk m c 3 t) _ _ (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H9]
  · unfold vtKept
    iexists X9
    isplitl [H9]; · iexact H9
    ipureintro
    exact hX t rfl
  isplitl [HS]; · iexact HS
  iintro ⟨H0, H1, H2, H3, H4, H5, H9, HS⟩
  isplitl [H9 HS Hr]
  · isplitl [H9]
    · iexists _
      isplitl [H9]; · iexact H9
      ipureintro
      intro t' ht' h0
      rw [iblk4_next m c t t' ht' h0]
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers may hold anything when the region is entered. -/
theorem scr_in (c : Dev nD) : Pipeline.ΦA spec0 c ⊢ (dats (F := F) m 0 c).Φ 0 := by
  rw [Φ_eq]
  unfold Pipeline.ΦA scr
  rw [scopedRest0_eq]
  simp only [owns_whole_eq]
  iintro ⟨⟨⟨%f, H0⟩, ⟨%g, H1⟩⟩, Hr⟩
  isplitl [H0]
  · iexists f
    isplitl [H0]
    · iexists f; isplitr; · ipureintro; rfl
      iexact H0
    ipureintro
    intro t ht h0
    have h : ∀ t : Fin grid0.N, t.val = 0 → (grid0.coords t 2).val = 0 := by decide +kernel
    exact absurd (h t ht) h0
  isplitl [H1]
  · iexists g; iexists g; isplitr; · ipureintro; rfl
    iexact H1
  iexact Hr

/-- What they hold at the end is forgotten. -/
theorem scr_out (c : Dev nD) : (dats (F := F) m 0 c).Φ (Fin.last cfg0.N) ⊢ Pipeline.ΦA spec0 c := by
  rw [Φ_eq]
  unfold Pipeline.ΦA scr
  rw [scopedRest0_eq]
  simp only [owns_whole_eq]
  iintro ⟨⟨%X, ⟨%f, -, H0⟩, -⟩, ⟨%Y, %g, -, H1⟩, Hr⟩
  isplitl [H0 H1]
  · isplitl [H0]; · iexists f; iexact H0
    iexists g; iexact H1
  iexact Hr

set_option backward.isDefEq.respectTransparency.types false in
/-- The launch: every fair run ends with the pipeline's arrays as the proof data says, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scr_in m) (hout := scr_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every fair run ends, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KB

end
-- ==== Proof.HeadI.lean ====
/-
  The kernel's body at one grid point, written as one routine per head called eight times, and the equation that the
  printed body is that program. `scoreTile`, `diagTile`, `partSum`, `recip`, `codes`, `pvStep` and `outTile` name the
  vector values a head computes.
-/
module

public import proofs.«01_k».proof.Proof.Gen.KernelIdeal.Skeleton

@[expose] public section

set_option maxRecDepth 16384

noncomputable section

namespace Cert.Proof.KI

open Cert.KernelIdeal Cert.KernelIdeal.Gen
open Idealize.ShloMosaic Idealize.SL.Sem

variable {F : FTy → Type} [FloatOps F] [Named F]

/-- The factor of the soft cap, 50 / log 2. -/
def cap : F .f32 := Named.named κ "softcap_log2e" 0x429044FE#32

/-- Where a key's place in the tile is not after the query's. -/
def maskI : IVec S256x256 1 :=
  cmpi .sle (iota .tc S256x256 32 [0] iota_S256x256_d0_w32) (iota .tc S256x256 32 [1] iota_S256x256_d1_w32)

/-- The queries of one head as a matrix. -/
def qMat (v : Vec F S1x256x128 .fp8e4m3) : FVec F S256x128 .fp8e4m3 := shapeCast S256x128 v shapeCasts_S1x256x128_S256x128

/-- The exponentials of one tile's soft-capped scores: keys down, queries across. -/
def scoreTile (v : Vec F S1x256x128 .fp8e4m3) (c : F .f32) (kb : Vec F S1x256x128 .fp8e4m3) : FVec F S256x256 .f32 :=
  exp2 (mulf (broadcast S256x256 cap) (tanh (mulf
    (matmul dot_S256x128_S256x128_S256x256_1_1_0_0_n_n none (qMat kb) (qMat v) (constant S256x256 .f32 0x00000000#32))
    (broadcast S256x256 c))))

/-- The same on the diagonal tile, zero at the keys after the query. -/
def diagTile (v : Vec F S1x256x128 .fp8e4m3) (c : F .f32) (kb : Vec F S1x256x128 .fp8e4m3) : FVec F S256x256 .f32 :=
  select maskI (scoreTile v c kb) (broadcast S256x256 (Scalar.ofBits .f32 0x00000000#32 : F .f32))

/-- A tile's sums over every eighth key. -/
def partSum (e : FVec F S256x256 .f32) : FVec F S8x256 .f32 :=
  multiReduction .add [0] S8x256 (shapeCast S32x8x256 e shapeCasts_S256x256_S32x8x256) 0x00000000#32 reduces_S32x8x256_S8x256 (.inl rfl) rfl

/-- 256 over the sum of a query's exponentials. -/
def recip (l : FVec F S8x256 .f32) : FVec F S1x256 .f32 :=
  divf (broadcast S1x256 (Scalar.ofBits .f32 0x43800000#32 : F .f32))
    (shapeCast S1x256 (multiReduction .add [0] S256 l 0x00000000#32 reduces_S8x256_S256 (.inl rfl) rfl) shapeCasts_S256_S1x256)

/-- The probabilities' codes of one tile. -/
def codes (r : FVec F S1x256 .f32) (e : Vec F S256x256 .f32) : FVec F S256x256 .fp8e4m3 :=
  truncf .fp8e4m3 (minimumf (broadcast S256x256 (Scalar.ofBits .f32 0x43E00000#32 : F .f32))
    (maximumf (broadcast S256x256 (Scalar.ofBits .f32 0xC3E00000#32 : F .f32))
      (mulf e (broadcastTo S256x256 r broadcasts_S1x256_S256x256)))) bitsLt_fp8e4m3_f32

/-- One tile's part of the product with the values, added on. -/
def pvStep (r : FVec F S1x256 .f32) (acc : FVec F S128x256 .f32) (e : Vec F S256x256 .f32) (vb : Vec F S128x256 .fp8e4m3) : FVec F S128x256 .f32 :=
  addf acc (matmul dot_S128x256_S256x256_S128x256_1_0_0_1_n_n none vb (codes r e) (constant S128x256 .f32 0x00000000#32))

/-- One head's result: scaled, transposed and rounded. -/
def outTile (s : F .f32) (acc : FVec F S128x256 .f32) : FVec F S1x256x128 .bf16 :=
  shapeCast S1x256x128 (truncf .bf16 (transpose S256x128 [1, 0] (mulf acc (broadcast S128x256 s)) transposes_S128x256_p1_0_S256x128) bitsLt_bf16_f32)
    shapeCasts_S256x128_S1x256x128

/-- The values transposed, by a product with the identity matrix. -/
def vtMat (v : Vec F S1x2048x128 .fp8e4m3) : FVec F S128x2048 .fp8e4m3 :=
  shapeCast S128x2048 (truncf .fp8e4m3 (matmul dot_S128x128_S2048x128_S128x2048_1_1_0_0_n_n none
    (truncf .fp8e4m3 (select (cmpi .eq (iota .tc S128x128 32 [0] iota_S128x128_d0_w32) (iota .tc S128x128 32 [1] iota_S128x128_d1_w32))
      (broadcast S128x128 (Scalar.ofBits .f32 0x3F800000#32 : F .f32)) (broadcast S128x128 (Scalar.ofBits .f32 0x00000000#32 : F .f32))) bitsLt_fp8e4m3_f32)
    (shapeCast S2048x128 v shapeCasts_S1x2048x128_S2048x128 : FVec F S2048x128 .fp8e4m3) (constant S128x2048 .f32 0x00000000#32)) bitsLt_fp8e4m3_f32)
    shapeCasts_S128x2048_S128x2048

/-- The scale of the output: the values' scale over 256. -/
def outScale (v7 : F .f32) : F .f32 := Scalar.mulf v7 (Scalar.ofBits .f32 0x3B800000#32)

/-- The sums before the first tile. -/
def sum0 : FVec F S8x256 .f32 := broadcast S8x256 (Scalar.ofBits .f32 0x00000000#32 : F .f32)

/-- The product before the first tile. -/
def acc0 : FVec F S128x256 .f32 := broadcast S128x256 (Scalar.ofBits .f32 0x00000000#32 : F .f32)

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)

/-- A trip of the first loop: one full tile's exponentials stored, their sums added on. -/
def scoreTrip (v : Vec F S1x256x128 .fp8e4m3) (c : F .f32) (t : Fin (k0_t1_loop i).trips) (acc : FVec F S8x256 .f32) :
    Prog (TpuEff nD τ sig (Elt F) Λ₀ .tc) (FVec F S8x256 .f32) := do
  let kb : Vec F S1x256x128 .fp8e4m3 ← Prog.lift (.load arg6 (Rect.unit (s := S1x2048x128) (k0_off3 i t) S1x256x128.size (k0_off3_inb i t)).toLoadRect (View.loadsAt_vmem h_S1x256x128))
  let _ : Vec F S256x256 .f32 ← Prog.lift (.load arg10 (Rect.unit (s := S2048x256) (k0_off4 i t) S256x256.size (k0_off4_inb i t)).toLoadRect (View.loadsAt_vmem h_S256x256))
  Prog.lift (.store arg10 (Rect.unit (s := S2048x256) (k0_off4 i t) S256x256.size (k0_off4_inb i t)) (shapeCast S256x256 (scoreTile v c kb) shapeCasts_S256x256_S256x256) Finset.univ (View.stores_vmem_bits_univ h_S256x256 rfl) (.inl rfl))
  pure (addf acc (partSum (scoreTile v c kb)))

/-- A trip of the first loop's remainder, which makes none. -/
def scoreRest (v : Vec F S1x256x128 .fp8e4m3) (c : F .f32) (t : Fin (k0_t2_loop i).trips) (acc : FVec F S8x256 .f32) :
    Prog (TpuEff nD τ sig (Elt F) Λ₀ .tc) (FVec F S8x256 .f32) := do
  let kb : Vec F S1x256x128 .fp8e4m3 ← Prog.lift (.load arg6 (Rect.unit (s := S1x2048x128) (k0_off5 i t) S1x256x128.size (k0_off5_inb i t)).toLoadRect (View.loadsAt_vmem h_S1x256x128))
  let _ : Vec F S256x256 .f32 ← Prog.lift (.load arg10 (Rect.unit (s := S2048x256) (k0_off6 i t) S256x256.size (k0_off6_inb i t)).toLoadRect (View.loadsAt_vmem h_S256x256))
  Prog.lift (.store arg10 (Rect.unit (s := S2048x256) (k0_off6 i t) S256x256.size (k0_off6_inb i t)) (shapeCast S256x256 (scoreTile v c kb) shapeCasts_S256x256_S256x256) Finset.univ (View.stores_vmem_bits_univ h_S256x256 rfl) (.inl rfl))
  pure (addf acc (partSum (scoreTile v c kb)))

/-- A trip of the second loop: one tile's codes against its values. -/
def pvTrip (r : FVec F S1x256 .f32) (t : Fin (k0_t3_loop i).trips) (acc : FVec F S128x256 .f32) :
    Prog (TpuEff nD τ sig (Elt F) Λ₀ .tc) (FVec F S128x256 .f32) := do
  let e : Vec F S256x256 .f32 ← Prog.lift (.load arg10 (Rect.unit (s := S2048x256) (k0_off9 i t) S256x256.size (k0_off9_inb i t)).toLoadRect (View.loadsAt_vmem h_S256x256))
  let vb : Vec F S128x256 .fp8e4m3 ← Prog.lift (.load arg9 (Rect.unit (s := S128x2048) (k0_off10 i t) S128x256.size (k0_off10_inb i t)).toLoadRect (View.loadsAt_vmem h_S128x256))
  pure (pvStep r acc e vb)

/-- A trip of the second loop's remainder, which makes none. -/
def pvRest (r : FVec F S1x256 .f32) (t : Fin (k0_t4_loop i).trips) (acc : FVec F S128x256 .f32) :
    Prog (TpuEff nD τ sig (Elt F) Λ₀ .tc) (FVec F S128x256 .f32) := do
  let e : Vec F S256x256 .f32 ← Prog.lift (.load arg10 (Rect.unit (s := S2048x256) (k0_off11 i t) S256x256.size (k0_off11_inb i t)).toLoadRect (View.loadsAt_vmem h_S256x256))
  let vb : Vec F S128x256 .fp8e4m3 ← Prog.lift (.load arg9 (Rect.unit (s := S128x2048) (k0_off12 i t) S128x256.size (k0_off12_inb i t)).toLoadRect (View.loadsAt_vmem h_S128x256))
  pure (pvStep r acc e vb)

/-- One head: its queries at offsets `oq`, its scale at offsets `oc`, its result stored at `oq`. -/
def head (s : F .f32) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ) :
    Prog (TpuEff nD τ sig (Elt F) Λ₀ .tc) PUnit := do
  let v : Vec F S1x256x128 .fp8e4m3 ← Prog.lift (.load arg5 (Rect.unit (s := S1x256x1024) oq S1x256x128.size hq).toLoadRect (View.loadsAt_vmem h_S1x256x128))
  let c : Elt F .f32 ← smemLoad arg3 (Rect.unit (s := S2x8) oc S1x1.size hc) numel1_S1x1 rfl
  let l1 : FVec F S8x256 .f32 ← Scf.Loop.for (k0_t1_loop i) (k0_t1_ok i) (sum0 (F := F)) (scoreTrip i arg6 arg10 v c)
  let l2 : FVec F S8x256 .f32 ← Scf.Loop.for (k0_t2_loop i) (k0_t2_ok i) l1 (scoreRest i arg6 arg10 v c)
  let kb : Vec F S1x256x128 .fp8e4m3 ← Prog.lift (.load arg6 (Rect.unit (s := S1x2048x128) (k0_off7 i) S1x256x128.size (k0_off7_inb i)).toLoadRect (View.loadsAt_vmem h_S1x256x128))
  let _ : Vec F S256x256 .f32 ← Prog.lift (.load arg10 (Rect.unit (s := S2048x256) (k0_off8 i) S256x256.size (k0_off8_inb i)).toLoadRect (View.loadsAt_vmem h_S256x256))
  Prog.lift (.store arg10 (Rect.unit (s := S2048x256) (k0_off8 i) S256x256.size (k0_off8_inb i)) (shapeCast S256x256 (diagTile v c kb) shapeCasts_S256x256_S256x256) Finset.univ (View.stores_vmem_bits_univ h_S256x256 rfl) (.inl rfl))
  let p1 : FVec F S128x256 .f32 ← Scf.Loop.for (k0_t3_loop i) (k0_t3_ok i) (acc0 (F := F)) (pvTrip i arg9 arg10 (recip (addf l2 (partSum (diagTile v c kb)))))
  let p2 : FVec F S128x256 .f32 ← Scf.Loop.for (k0_t4_loop i) (k0_t4_ok i) p1 (pvRest i arg9 arg10 (recip (addf l2 (partSum (diagTile v c kb)))))
  let _ : Vec F S1x256x128 .bf16 ← Prog.lift (.load arg8 (Rect.unit (s := S1x256x1024) oq S1x256x128.size hq).toLoadRect (View.loadsAt_vmem h_S1x256x128))
  Prog.lift (.store arg8 (Rect.unit (s := S1x256x1024) oq S1x256x128.size hq) (outTile s p2) Finset.univ hst (.inl rfl))
  pure ⟨⟩

/-- At the first query tile of a batch entry and key head, the values transposed into scratch. -/
def initVt (harg9 : arg9.IsWhole) : Prog (TpuEff nD τ sig (Elt F) Λ₀ .tc) PUnit :=
  let arg2 : BitVec 32 := BitVec.ofNat 32 (i 2).val
  let v0 : BitVec 1 := Scalar.cmpi .eq arg2 0#32
  let v1 : BitVec 32 := Scalar.extui v0
  let v2 : BitVec 1 := Scalar.cmpi .ne v1 0#32
  if k0_h1 : v2 = 1#1 then do
    let v440 : Vec F S1x2048x128 .fp8e4m3 ← Prog.lift (.load arg7 (Rect.unit (s := S1x2048x128) ![0, 0, 0] S1x2048x128.size inb_S1x2048x128_S1x2048x128_0_0_0).toLoadRect (View.loadsAt_vmem h_S1x2048x128))
    let _ : Vec F S128x2048 .fp8e4m3 ← Prog.lift (.load arg9 (Rect.unit (s := S128x2048) ![0, 0] S128x2048.size inb_S128x2048_S128x2048_0_0).toLoadRect (View.loadsAt_vmem h_S128x2048))
    Prog.lift (.store arg9 (Rect.unit (s := S128x2048) ![0, 0] S128x2048.size inb_S128x2048_S128x2048_0_0) (vtMat v440) Finset.univ (View.stores_vmem h_S128x2048 (harg9.storeExact_slice rfl _ packedfp8e4m3_S128x2048_S128x2048_0_0) (fun _ => rfl)) (.inl rfl))
    pure ⟨⟩
  else do
    pure ⟨⟩

/-- The body: the values transposed where due, the output's scale read, then the eight heads. -/
def body (harg8 : arg8.IsWhole) (harg9 : arg9.IsWhole) : Prog (TpuEff nD τ sig (Elt F) Λ₀ .tc) PUnit := do
  initVt i arg7 arg9 harg9
  let v7 : Elt F .f32 ← smemLoad arg4 (Rect.unit (s := S2) (k0_off1 i) S1.size (k0_off1_inb i)) numel1_S1 rfl
  head i arg3 arg5 arg6 arg8 arg9 arg10 (outScale v7) ![0, 0, 0] inb_S1x256x1024_S1x256x128_0_0_0 (k0_off2 i) (k0_off2_inb i) (View.stores_vmem h_S1x256x128 (harg8.storeExact_slice rfl _ packedbf16_S1x256x1024_S1x256x128_0_0_0) (fun _ => rfl))
  head i arg3 arg5 arg6 arg8 arg9 arg10 (outScale v7) ![0, 0, 128] inb_S1x256x1024_S1x256x128_0_0_128 (k0_off13 i) (k0_off13_inb i) (View.stores_vmem h_S1x256x128 (harg8.storeExact_slice rfl _ packedbf16_S1x256x1024_S1x256x128_0_0_128) (fun _ => rfl))
  head i arg3 arg5 arg6 arg8 arg9 arg10 (outScale v7) ![0, 0, 256] inb_S1x256x1024_S1x256x128_0_0_256 (k0_off22 i) (k0_off22_inb i) (View.stores_vmem h_S1x256x128 (harg8.storeExact_slice rfl _ packedbf16_S1x256x1024_S1x256x128_0_0_256) (fun _ => rfl))
  head i arg3 arg5 arg6 arg8 arg9 arg10 (outScale v7) ![0, 0, 384] inb_S1x256x1024_S1x256x128_0_0_384 (k0_off31 i) (k0_off31_inb i) (View.stores_vmem h_S1x256x128 (harg8.storeExact_slice rfl _ packedbf16_S1x256x1024_S1x256x128_0_0_384) (fun _ => rfl))
  head i arg3 arg5 arg6 arg8 arg9 arg10 (outScale v7) ![0, 0, 512] inb_S1x256x1024_S1x256x128_0_0_512 (k0_off40 i) (k0_off40_inb i) (View.stores_vmem h_S1x256x128 (harg8.storeExact_slice rfl _ packedbf16_S1x256x1024_S1x256x128_0_0_512) (fun _ => rfl))
  head i arg3 arg5 arg6 arg8 arg9 arg10 (outScale v7) ![0, 0, 640] inb_S1x256x1024_S1x256x128_0_0_640 (k0_off49 i) (k0_off49_inb i) (View.stores_vmem h_S1x256x128 (harg8.storeExact_slice rfl _ packedbf16_S1x256x1024_S1x256x128_0_0_640) (fun _ => rfl))
  head i arg3 arg5 arg6 arg8 arg9 arg10 (outScale v7) ![0, 0, 768] inb_S1x256x1024_S1x256x128_0_0_768 (k0_off58 i) (k0_off58_inb i) (View.stores_vmem h_S1x256x128 (harg8.storeExact_slice rfl _ packedbf16_S1x256x1024_S1x256x128_0_0_768) (fun _ => rfl))
  head i arg3 arg5 arg6 arg8 arg9 arg10 (outScale v7) ![0, 0, 896] inb_S1x256x1024_S1x256x128_0_0_896 (k0_off67 i) (k0_off67_inb i) (View.stores_vmem h_S1x256x128 (harg8.storeExact_slice rfl _ packedbf16_S1x256x1024_S1x256x128_0_0_896) (fun _ => rfl))

end

end Cert.Proof.KI

end
-- ==== Proof.BodyI.lean ====
/-
  The printed body of the kernel is the program of eight heads.
-/
module

public import proofs.«01_k».proof.Proof.HeadI

@[expose] public section

set_option maxRecDepth 16384

noncomputable section

namespace Cert.Proof.KI

open Cert.KernelIdeal Cert.KernelIdeal.Gen
open Idealize.ShloMosaic Idealize.SL.Sem

variable {F : FTy → Type} [FloatOps F] [Named F]
variable (i : grid0.Coords) (arg3 : Memref sig .tc .smem S2x8 .f32) (harg3 : arg3.IsWhole) (arg4 : Memref sig .tc .smem S2 .f32) (harg4 : arg4.IsWhole)
  (arg5 : Memref sig .tc .vmem S1x256x1024 .fp8e4m3) (harg5 : arg5.IsWhole) (arg6 : Memref sig .tc .vmem S1x2048x128 .fp8e4m3) (harg6 : arg6.IsWhole)
  (arg7 : Memref sig .tc .vmem S1x2048x128 .fp8e4m3) (harg7 : arg7.IsWhole) (arg8 : Memref sig .tc .vmem S1x256x1024 .bf16) (harg8 : arg8.IsWhole)
  (arg9 : Memref sig .tc .vmem S128x2048 .fp8e4m3) (harg9 : arg9.IsWhole) (arg10 : Memref sig .tc .vmem S2048x256 .f32) (harg10 : arg10.IsWhole)

set_option maxHeartbeats 4000000 in
/-- The printed body is `body`. -/
theorem kernel_eq : cc0__attn_kernel (F := F) i arg3 harg3 arg4 harg4 arg5 harg5 arg6 harg6 arg7 harg7 arg8 harg8 arg9 harg9 arg10 harg10
    = body i arg3 arg4 arg5 arg6 arg7 arg8 arg9 arg10 harg8 harg9 := by
  rw [cc0__attn_kernel_eq_skeleton]
  unfold cc0__attn_kernel_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold body head initVt
  by_cases h : Scalar.cmpi .ne (Scalar.extui (Scalar.cmpi .eq (BitVec.ofNat 32 (i 2).val) 0#32) : BitVec 32) 0#32 = 1#1
  · simp only [dif_pos h, bind_assoc, pure_bind]
    iterate 2 refine bind_congr fun _ => ?_
    rfl
  · simp only [dif_neg h, bind_assoc, pure_bind]
    rfl

end Cert.Proof.KI

end
-- ==== Proof.SpecI.lean ====
/-
  What one head leaves, as values of what its memrefs read, and the rule for running it.
-/
module

public import proofs.«01_k».proof.Proof.HeadI
public import proofs.«01_k».proof.Proof.Mem

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Trip counts -/

theorem trips1 (i : grid0.Coords) : (k0_t1_loop i).trips = (i 2).val := by revert i; decide +kernel
theorem trips2 (i : grid0.Coords) : (k0_t2_loop i).trips = 0 := by revert i; decide +kernel
theorem trips3 (i : grid0.Coords) : (k0_t3_loop i).trips = (i 2).val + 1 := by revert i; decide +kernel
theorem trips4 (i : grid0.Coords) : (k0_t4_loop i).trips = 0 := by revert i; decide +kernel
theorem i2_lt (i : grid0.Coords) : (i 2).val < 8 := (i 2).isLt

/-! ## The tiles -/

theorem kR_inb (j : Nat) : ∀ a, (![0, 256 * (j % 8), 0] : Fin 3 → Nat) a + S1x256x128.size a ≤ S1x2048x128.size a := by
  have := Nat.mod_lt j (by decide : 8 > 0)
  intro a; fin_cases a
  · show 0 + 1 ≤ 1; omega
  · show 256 * (j % 8) + 256 ≤ 2048; omega
  · show 0 + 128 ≤ 128; omega

theorem eR_inb (j : Nat) : ∀ a, (![256 * (j % 8), 0] : Fin 2 → Nat) a + S256x256.size a ≤ S2048x256.size a := by
  have := Nat.mod_lt j (by decide : 8 > 0)
  intro a; fin_cases a
  · show 256 * (j % 8) + 256 ≤ 2048; omega
  · show 0 + 256 ≤ 256; omega

theorem vR_inb (j : Nat) : ∀ a, (![0, 256 * (j % 8)] : Fin 2 → Nat) a + S128x256.size a ≤ S128x2048.size a := by
  have := Nat.mod_lt j (by decide : 8 > 0)
  intro a; fin_cases a
  · show 0 + 128 ≤ 128; omega
  · show 256 * (j % 8) + 256 ≤ 2048; omega

/-- Key tile `j` of the staged keys. -/
abbrev kR (j : Nat) : Rect S1x2048x128 := Rect.unit (s := S1x2048x128) ![0, 256 * (j % 8), 0] S1x256x128.size (kR_inb j)
/-- Rows of tile `j` in the exponentials' scratch. -/
abbrev eR (j : Nat) : Rect S2048x256 := Rect.unit (s := S2048x256) ![256 * (j % 8), 0] S256x256.size (eR_inb j)
/-- Columns of tile `j` of the transposed values. -/
abbrev vR (j : Nat) : Rect S128x2048 := Rect.unit (s := S128x2048) ![0, 256 * (j % 8)] S128x256.size (vR_inb j)

theorem off3_at (i : grid0.Coords) (t : Fin (k0_t1_loop i).trips) : k0_off3 i t = ![0, 256 * (t.val % 8), 0] := by
  have h := lt_of_lt_of_eq t.isLt (trips1 i); have := i2_lt i
  rw [k0_off3_eq, Nat.mod_eq_of_lt (by omega)]
theorem off4_at (i : grid0.Coords) (t : Fin (k0_t1_loop i).trips) : k0_off4 i t = ![256 * (t.val % 8), 0] := by
  have h := lt_of_lt_of_eq t.isLt (trips1 i); have := i2_lt i
  rw [k0_off4_eq, Nat.mod_eq_of_lt (by omega)]
theorem off7_at (i : grid0.Coords) : k0_off7 i = ![0, 256 * ((i 2).val % 8), 0] := by
  rw [k0_off7_eq, Nat.mod_eq_of_lt (i2_lt i)]
theorem off8_at (i : grid0.Coords) : k0_off8 i = ![256 * ((i 2).val % 8), 0] := by
  rw [k0_off8_eq, Nat.mod_eq_of_lt (i2_lt i)]
theorem off9_at (i : grid0.Coords) (t : Fin (k0_t3_loop i).trips) : k0_off9 i t = ![256 * (t.val % 8), 0] := by
  have h := lt_of_lt_of_eq t.isLt (trips3 i); have := i2_lt i
  rw [k0_off9_eq, Nat.mod_eq_of_lt (by omega)]
theorem off10_at (i : grid0.Coords) (t : Fin (k0_t3_loop i).trips) : k0_off10 i t = ![0, 256 * (t.val % 8)] := by
  have h := lt_of_lt_of_eq t.isLt (trips3 i); have := i2_lt i
  rw [k0_off10_eq, Nat.mod_eq_of_lt (by omega)]

/-- Two tiles' rows in the scratch are apart. -/
theorem eR_apart {j j' : Nat} (h : j < 8) (h' : j' < 8) (hne : j ≠ j') : ∀ x x', (eR j).emb x ≠ (eR j').emb x' := by
  intro x x' he
  have h0 : ((eR j).emb x 0).val = ((eR j').emb x' 0).val := by rw [he]
  have e1 : ((eR j).emb x 0).val = 256 * (j % 8) + (x 0).val := unit_emb_val _ _ _ x 0
  have e2 : ((eR j').emb x' 0).val = 256 * (j' % 8) + (x' 0).val := unit_emb_val _ _ _ x' 0
  rw [e1, e2, Nat.mod_eq_of_lt h, Nat.mod_eq_of_lt h'] at h0
  have l1 : (x 0).val < 256 := (x 0).isLt
  have l2 : (x' 0).val < 256 := (x' 0).isLt
  omega

/-! ## The values of one head -/

section
variable (v : Vec F S1x256x128 .fp8e4m3) (c : F .f32) (X6 : S1x2048x128.Idx → Elt F .fp8e4m3) (X9 : S128x2048.Idx → Elt F .fp8e4m3) (n : Nat)

/-- The exponentials of tile `j` for query tile `n`. -/
def eTile (j : Nat) : FVec F S256x256 .f32 := if j < n then scoreTile v c (rd (kR j) X6) else diagTile v c (rd (kR j) X6)

/-- As they stand in the scratch. -/
def eKept (j : Nat) : Vec F S256x256 .f32 := shapeCast S256x256 (eTile v c X6 n j) shapeCasts_S256x256_S256x256

/-- The sums after `j` tiles. -/
def lSum : Nat → FVec F S8x256 .f32
  | 0 => sum0
  | j + 1 => addf (lSum j) (partSum (eTile v c X6 n j))

/-- The product with the values after `j` tiles. -/
def pSum (r : FVec F S1x256 .f32) : Nat → FVec F S128x256 .f32
  | 0 => acc0
  | j + 1 => pvStep r (pSum r j) (eKept v c X6 n j) (rd (vR j) X9)

/-- What the head stores. -/
def headOut (s : F .f32) : FVec F S1x256x128 .bf16 := outTile s (pSum v c X6 X9 n (recip (lSum v c X6 n (n + 1))) (n + 1))

end

local notation "𝕄" => MT nD τ sig Unit (Elt F) ℕ (UR sig nD τ) ℕ

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)

/-- The word of the table at two offsets. -/
def word2 (X3 : S2x8.Idx → Elt F .f32) (oc : Fin 2 → Nat) (hc : ∀ a, oc a + S1x1.size a ≤ S2x8.size a) : F .f32 :=
  X3 ((Rect.unit (s := S2x8) oc S1x1.size hc).emb (Shape.Idx.first (numel1_S1x1.symm ▸ Nat.one_pos)))

/-- Between trips of the first loop: the tiles before stand in the scratch, their sums are carried. -/
def loop1 (d : Dev nD) (v : Vec F S1x256x128 .fp8e4m3) (c : F .f32) (X6 : S1x2048x128.Idx → Elt F .fp8e4m3) (n : Nat) (j : Nat) (acc : FVec F S8x256 .f32) : sProp 𝕄 :=
  iprop(owns (d : Thread nD τ) arg6 fullShare X6 ∗ ∃ X10, owns (d : Thread nD τ) arg10 fullShare X10
    ∗ ⌜acc = lSum v c X6 n j ∧ ∀ j' < j, rd (eR j') X10 = eKept v c X6 n j'⌝)

/-- One trip of it. -/
theorem score_trip (d : Dev nD) (v : Vec F S1x256x128 .fp8e4m3) (c : F .f32) (X6 : S1x2048x128.Idx → Elt F .fp8e4m3)
    (t : Fin (k0_t1_loop i).trips) (acc : FVec F S8x256 .f32) :
    loop1 arg6 arg10 d v c X6 (i 2).val t.val acc ⊢ wp frame (wpE (defs₀ (F := F)) Variants.none d none) Set.univ
      (scoreTrip i arg6 arg10 v c t acc) (loop1 arg6 arg10 d v c X6 (i 2).val (t.val + 1)) := by
  have ht := lt_of_lt_of_eq t.isLt (trips1 i)
  have hn := i2_lt i
  unfold scoreTrip
  unfold loop1
  iintro ⟨H6, ⟨%X10, H10, %hX⟩⟩
  obtain ⟨rfl, hX⟩ := hX
  iapply (wp_load_owns Variants.none (d : Thread nD τ) none Set.univ) $$ H6
  iintro H6
  iapply (wp_load_owns Variants.none (d : Thread nD τ) none Set.univ) $$ H10
  iintro H10
  iapply (wp_store_owns Variants.none (d : Thread nD τ) none Set.univ) $$ H10
  iintro H10
  rw [rd_unit_congr (off3_at i t) (k0_off3_inb i t) (kR_inb t.val), upd_unit_congr (off4_at i t) (k0_off4_inb i t) (eR_inb t.val)]
  sl_step
  isplitl [H6]; · iexact H6
  iexists _
  isplitl [H10]; · iexact H10
  ipureintro
  have he : eTile v c X6 (i 2).val t.val = scoreTile v c (rd (kR t.val) X6) := if_pos ht
  refine ⟨?_, fun j' hj' => ?_⟩
  · show _ = addf _ _
    rw [he]
  · rcases Nat.lt_succ_iff_lt_or_eq.mp hj' with h | h
    · rw [rd_upd_of_disjoint _ _ _ _ (eR_apart (by omega) (by omega) (by omega))]
      exact hX j' h
    · subst h
      rw [rd_upd]
      unfold eKept
      rw [he]

/-- Between trips of the second loop: the tiles stand in the scratch, the product so far is carried. -/
def loop2 (d : Dev nD) (v : Vec F S1x256x128 .fp8e4m3) (c : F .f32) (X6 : S1x2048x128.Idx → Elt F .fp8e4m3) (X9 : S128x2048.Idx → Elt F .fp8e4m3)
    (n : Nat) (r : FVec F S1x256 .f32) (j : Nat) (acc : FVec F S128x256 .f32) : sProp 𝕄 :=
  iprop(owns (d : Thread nD τ) arg9 fullShare X9 ∗ ∃ X10, owns (d : Thread nD τ) arg10 fullShare X10
    ∗ ⌜acc = pSum v c X6 X9 n r j ∧ ∀ j' < n + 1, rd (eR j') X10 = eKept v c X6 n j'⌝)

/-- One trip of it. -/
theorem pv_trip (d : Dev nD) (v : Vec F S1x256x128 .fp8e4m3) (c : F .f32) (X6 : S1x2048x128.Idx → Elt F .fp8e4m3) (X9 : S128x2048.Idx → Elt F .fp8e4m3)
    (r : FVec F S1x256 .f32) (t : Fin (k0_t3_loop i).trips) (acc : FVec F S128x256 .f32) :
    loop2 arg9 arg10 d v c X6 X9 (i 2).val r t.val acc ⊢ wp frame (wpE (defs₀ (F := F)) Variants.none d none) Set.univ
      (pvTrip i arg9 arg10 r t acc) (loop2 arg9 arg10 d v c X6 X9 (i 2).val r (t.val + 1)) := by
  have ht := lt_of_lt_of_eq t.isLt (trips3 i)
  unfold pvTrip
  unfold loop2
  iintro ⟨H9, ⟨%X10, H10, %hX⟩⟩
  obtain ⟨rfl, hX⟩ := hX
  iapply (wp_load_owns Variants.none (d : Thread nD τ) none Set.univ) $$ H10
  iintro H10
  iapply (wp_load_owns Variants.none (d : Thread nD τ) none Set.univ) $$ H9
  iintro H9
  rw [rd_unit_congr (off9_at i t) (k0_off9_inb i t) (eR_inb t.val), rd_unit_congr (s := S128x2048) (size := S128x256.size) (off10_at i t) (k0_off10_inb i t) (vR_inb t.val), hX t.val ht]
  sl_step
  isplitl [H9]; · iexact H9
  iexists _
  isplitl [H10]; · iexact H10
  ipureintro
  exact ⟨rfl, hX⟩

set_option maxHeartbeats 1000000 in
/-- The rule of one head: from its memrefs at what they read, the scratch at anything, it runs on to its continuation with its
    columns of the result at `headOut`. -/
theorem head_spec (d : Dev nD) (s : F .f32) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ)
    (X3 : S2x8.Idx → Elt F .f32) (X5 : S1x256x1024.Idx → Elt F .fp8e4m3) (X6 : S1x2048x128.Idx → Elt F .fp8e4m3)
    (X8 : S1x256x1024.Idx → Elt F .bf16) (X9 : S128x2048.Idx → Elt F .fp8e4m3)
    {β : Type} (k : PUnit → Prog (TpuEff nD τ sig (Elt F) Λ₀ .tc) β) (Q : β → sProp 𝕄) :
    iprop(owns (d : Thread nD τ) arg3 fullShare X3 ∗ owns (d : Thread nD τ) arg5 fullShare X5 ∗ owns (d : Thread nD τ) arg6 fullShare X6
      ∗ owns (d : Thread nD τ) arg8 fullShare X8 ∗ owns (d : Thread nD τ) arg9 fullShare X9 ∗ (∃ X, owns (d : Thread nD τ) arg10 fullShare X)
      ∗ (iprop(owns (d : Thread nD τ) arg3 fullShare X3 ∗ owns (d : Thread nD τ) arg5 fullShare X5 ∗ owns (d : Thread nD τ) arg6 fullShare X6
          ∗ owns (d : Thread nD τ) arg8 fullShare (upd (Rect.unit (s := S1x256x1024) oq S1x256x128.size hq) X8
              (headOut (rd (Rect.unit (s := S1x256x1024) oq S1x256x128.size hq) X5) (word2 X3 oc hc) X6 X9 (i 2).val s))
          ∗ owns (d : Thread nD τ) arg9 fullShare X9 ∗ (∃ X, owns (d : Thread nD τ) arg10 fullShare X))
        -∗ wp frame (wpE (defs₀ (F := F)) Variants.none d none) Set.univ (k ⟨⟩) Q))
    ⊢ wp frame (wpE (defs₀ (F := F)) Variants.none d none) Set.univ
        (head i arg3 arg5 arg6 arg8 arg9 arg10 s oq hq oc hc hst >>= k) Q := by
  unfold head Scf.Loop.for
  simp only [bind_assoc, pure_bind]
  iintro ⟨H3, H5, H6, H8, H9, ⟨%X10, H10⟩, Hk⟩
  iapply (wp_load_owns Variants.none (d : Thread nD τ) none Set.univ) $$ H5
  iintro H5
  iapply (wp_smemLoad_owns Variants.none (d : Thread nD τ) none Set.univ) $$ H3
  iintro H3
  generalize hv : rd (Rect.unit (s := S1x256x1024) oq S1x256x128.size hq) X5 = v
  rw [show X3 ((Rect.unit (s := S2x8) oc S1x1.size hc).emb (Shape.Idx.first (numel1_S1x1.symm ▸ Nat.one_pos))) = word2 X3 oc hc from rfl]
  generalize hcc : word2 X3 oc hc = c
  have hn := i2_lt i
  iapply (wp_loop _ _ _ _ _ _ _ _ _ (i 2).val (trips1 i) (loop1 arg6 arg10 d v c X6 (i 2).val) (fun t acc => score_trip i arg6 arg10 d v c X6 t acc))
  isplitl [H6 H10]
  · unfold loop1
    isplitl [H6]; · iexact H6
    iexists X10
    isplitl [H10]; · iexact H10
    ipureintro
    exact ⟨rfl, fun j' h => absurd h (Nat.not_lt_zero _)⟩
  iintro %l1 HI
  unfold loop1
  icases HI with ⟨H6, ⟨%X11, H10, %hX⟩⟩
  obtain ⟨rfl, hX⟩ := hX
  iapply (wp_loop0 _ _ _ _ _ _ _ _ _ (trips2 i))
  iapply (wp_load_owns Variants.none (d : Thread nD τ) none Set.univ) $$ H6
  iintro H6
  iapply (wp_load_owns Variants.none (d : Thread nD τ) none Set.univ) $$ H10
  iintro H10
  iapply (wp_store_owns Variants.none (d : Thread nD τ) none Set.univ) $$ H10
  iintro H10
  rw [rd_unit_congr (off7_at i) (k0_off7_inb i) (kR_inb (i 2).val), upd_unit_congr (s := S2048x256) (size := S256x256.size) (off8_at i) (k0_off8_inb i) (eR_inb (i 2).val)]
  have he : eTile v c X6 (i 2).val (i 2).val = diagTile v c (rd (kR (i 2).val) X6) := if_neg (Nat.lt_irrefl _)
  rw [← he]
  have hY : ∀ j' < (i 2).val + 1, rd (eR j') (upd (eR (i 2).val) X11 (eKept v c X6 (i 2).val (i 2).val)) = eKept v c X6 (i 2).val j' := fun j' hj' => by
    rcases Nat.lt_succ_iff_lt_or_eq.mp hj' with h | h
    · rw [rd_upd_of_disjoint _ _ _ _ (eR_apart (by omega) (by omega) (by omega))]
      exact hX j' h
    · subst h
      exact rd_upd _ _ _
  change _ at hY
  rw [show shapeCast S256x256 (eTile v c X6 (i 2).val (i 2).val) shapeCasts_S256x256_S256x256 = eKept v c X6 (i 2).val (i 2).val from rfl,
    show addf (lSum v c X6 (i 2).val (i 2).val) (partSum (eTile v c X6 (i 2).val (i 2).val)) = lSum v c X6 (i 2).val ((i 2).val + 1) from rfl]
  generalize upd (eR (i 2).val) X11 (eKept v c X6 (i 2).val (i 2).val) = Y at hY
  generalize hr : recip (lSum v c X6 (i 2).val ((i 2).val + 1)) = r
  iapply (wp_loop _ _ _ _ _ _ _ _ _ ((i 2).val + 1) (trips3 i) (loop2 arg9 arg10 d v c X6 X9 (i 2).val r) (fun t acc => pv_trip i arg9 arg10 d v c X6 X9 r t acc))
  isplitl [H9 H10]
  · unfold loop2
    isplitl [H9]; · iexact H9
    iexists Y
    isplitl [H10]; · iexact H10
    ipureintro
    exact ⟨rfl, hY⟩
  iintro %p1 HI
  unfold loop2
  icases HI with ⟨H9, ⟨%X12, H10, %hZ⟩⟩
  obtain ⟨rfl, -⟩ := hZ
  iapply (wp_loop0 _ _ _ _ _ _ _ _ _ (trips4 i))
  iapply (wp_load_owns Variants.none (d : Thread nD τ) none Set.univ) $$ H8
  iintro H8
  iapply (wp_store_owns Variants.none (d : Thread nD τ) none Set.univ) $$ H8
  iintro H8
  iapply Hk
  isplitl [H3]; · iexact H3
  isplitl [H5]; · iexact H5
  isplitl [H6]; · iexact H6
  isplitl [H8]
  · rw [show headOut v c X6 X9 (i 2).val s = outTile s (pSum v c X6 X9 (i 2).val r ((i 2).val + 1)) from by rw [← hr]; rfl]
    iexact H8
  isplitl [H9]; · iexact H9
  iexists _; iexact H10

end

end Cert.Proof.KI

end
-- ==== Proof.RunI.lean ====
/-
  What the body leaves at one grid point, and the rule for running it.
-/
module

public import proofs.«01_k».proof.Proof.SpecI

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem oR_inb (g : Nat) : ∀ a, (![0, 0, 128 * (g % 8)] : Fin 3 → Nat) a + S1x256x128.size a ≤ S1x256x1024.size a := by
  have := Nat.mod_lt g (by decide : 8 > 0)
  intro a; fin_cases a
  · show 0 + 1 ≤ 1; omega
  · show 0 + 256 ≤ 256; omega
  · show 128 * (g % 8) + 128 ≤ 1024; omega

theorem cR_inb (b : Fin 2) (g : Nat) : ∀ a, (![b.val, g % 8] : Fin 2 → Nat) a + S1x1.size a ≤ S2x8.size a := by
  have := Nat.mod_lt g (by decide : 8 > 0)
  have := b.isLt
  intro a; fin_cases a
  · show b.val + 1 ≤ 2; omega
  · show g % 8 + 1 ≤ 8; omega

/-- Head `g`'s columns of the queries and of the result. -/
abbrev oR (g : Nat) : Rect S1x256x1024 := Rect.unit (s := S1x256x1024) ![0, 0, 128 * (g % 8)] S1x256x128.size (oR_inb g)

theorem oR_apart {j j' : Nat} (h : j < 8) (h' : j' < 8) (hne : j ≠ j') : ∀ x x', (oR j).emb x ≠ (oR j').emb x' := by
  intro x x' he
  have h0 : ((oR j).emb x 2).val = ((oR j').emb x' 2).val := by rw [he]
  have e1 : ((oR j).emb x 2).val = 128 * (j % 8) + (x 2).val := unit_emb_val _ _ _ x 2
  have e2 : ((oR j').emb x' 2).val = 128 * (j' % 8) + (x' 2).val := unit_emb_val _ _ _ x' 2
  rw [e1, e2, Nat.mod_eq_of_lt h, Nat.mod_eq_of_lt h'] at h0
  have l1 : (x 2).val < 128 := (x 2).isLt
  have l2 : (x' 2).val < 128 := (x' 2).isLt
  omega

/-- The first query tile is where the values are transposed. -/
theorem first_iff (i : grid0.Coords) :
    Scalar.cmpi .ne (Scalar.extui (Scalar.cmpi .eq (BitVec.ofNat 32 (i 2).val) 0#32) : BitVec 32) 0#32 = 1#1 ↔ (i 2).val = 0 := by
  revert i; decide +kernel

section
variable (i : grid0.Coords) (X3 : S2x8.Idx → Elt F .f32) (X4 : S2.Idx → Elt F .f32) (X5 : S1x256x1024.Idx → Elt F .fp8e4m3)
  (X6 : S1x2048x128.Idx → Elt F .fp8e4m3) (X9 : S128x2048.Idx → Elt F .fp8e4m3)

/-- The score factor of head `g`. -/
def cWord (g : Nat) : F .f32 := word2 X3 ![(i 1).val, g % 8] (cR_inb (i 1) g)

/-- The values' scale. -/
def sWord : F .f32 := X4 ((Rect.unit (s := S2) (k0_off1 i) S1.size (k0_off1_inb i)).emb (Shape.Idx.first (numel1_S1.symm ▸ Nat.one_pos)))

/-- Head `g`'s result. -/
def hOut (g : Nat) : FVec F S1x256x128 .bf16 := headOut (rd (oR g) X5) (cWord i X3 g) X6 X9 (i 2).val (outScale (sWord i X4))

/-- The result at a grid point: each column is its head's. -/
def blockOut : S1x256x1024.Idx → Elt F .bf16 := fun y =>
  hOut i X3 X4 X5 X6 X9 ((y 2).val / 128) (Fin.cons (y 0) (Fin.cons (y 1) (Fin.cons ⟨(y 2).val % 128, Nat.mod_lt _ (by decide)⟩ (fun k => k.elim0))))

/-- An array every head's columns of which are its result is the result. -/
theorem eq_blockOut (X : S1x256x1024.Idx → Elt F .bf16) (h : ∀ g < 8, rd (oR g) X = hOut i X3 X4 X5 X6 X9 g) : X = blockOut i X3 X4 X5 X6 X9 := by
  funext y
  have hy : (y 2).val < 1024 := (y 2).isLt
  have hg : (y 2).val / 128 < 8 := by omega
  rw [blockOut, ← h _ hg]
  unfold rd
  congr 1
  funext a
  apply Fin.ext
  rw [unit_emb_val]
  fin_cases a
  · exact (Nat.zero_add _).symm
  · exact (Nat.zero_add _).symm
  · show (y 2).val = 128 * ((y 2).val / 128 % 8) + (y 2).val % 128
    rw [Nat.mod_eq_of_lt hg]; omega

end

section
variable (i : grid0.Coords) (arg3 : Memref sig .tc .smem S2x8 .f32) (arg4 : Memref sig .tc .smem S2 .f32)
  (arg5 : Memref sig .tc .vmem S1x256x1024 .fp8e4m3) (arg6 : Memref sig .tc .vmem S1x2048x128 .fp8e4m3) (arg7 : Memref sig .tc .vmem S1x2048x128 .fp8e4m3)
  (arg8 : Memref sig .tc .vmem S1x256x1024 .bf16) (arg9 : Memref sig .tc .vmem S128x2048 .fp8e4m3) (arg10 : Memref sig .tc .vmem S2048x256 .f32)
  (d : Dev nD) (X3 : S2x8.Idx → Elt F .f32) (X4 : S2.Idx → Elt F .f32) (X5 : S1x256x1024.Idx → Elt F .fp8e4m3)
  (X6 : S1x2048x128.Idx → Elt F .fp8e4m3) (X9 : S128x2048.Idx → Elt F .fp8e4m3)

/-- Between heads: those before have their columns of the result. -/
def between (g : Nat) : sProp 𝕄 :=
  iprop(owns (d : Thread nD τ) arg3 fullShare X3 ∗ owns (d : Thread nD τ) arg5 fullShare X5 ∗ owns (d : Thread nD τ) arg6 fullShare X6
    ∗ (∃ X8, owns (d : Thread nD τ) arg8 fullShare X8 ∗ ⌜∀ g' < g, rd (oR g') X8 = hOut i X3 X4 X5 X6 X9 g'⌝)
    ∗ owns (d : Thread nD τ) arg9 fullShare X9 ∗ (∃ X, owns (d : Thread nD τ) arg10 fullShare X))

/-- One head takes `between g` to `between (g + 1)`. -/
theorem head_step (g : Nat) (hg : g < 8) (oq : Fin 3 → Nat) (hq : ∀ a, oq a + S1x256x128.size a ≤ S1x256x1024.size a)
    (oc : Fin 2 → Nat) (hc : ∀ a, oc a + S1x1.size a ≤ S2x8.size a)
    (hst : (arg8.access (Rect.unit (s := S1x256x1024) oq S1x256x128.size hq)).Stores Finset.univ)
    (hoq : oq = ![0, 0, 128 * (g % 8)]) (hoc : oc = ![(i 1).val, g % 8])
    {β : Type} (k : PUnit → Prog (TpuEff nD τ sig (Elt F) Λ₀ .tc) β) (Q : β → sProp 𝕄) :
    iprop(between i arg3 arg5 arg6 arg8 arg9 arg10 d X3 X4 X5 X6 X9 g
      ∗ (between i arg3 arg5 arg6 arg8 arg9 arg10 d X3 X4 X5 X6 X9 (g + 1) -∗ wp frame (wpE (defs₀ (F := F)) Variants.none d none) Set.univ (k ⟨⟩) Q))
    ⊢ wp frame (wpE (defs₀ (F := F)) Variants.none d none) Set.univ
        (head i arg3 arg5 arg6 arg8 arg9 arg10 (outScale (sWord i X4)) oq hq oc hc hst >>= k) Q := by
  subst hoq hoc
  unfold between
  iintro ⟨⟨H3, H5, H6, ⟨%X8, H8, %hX⟩, H9, H10⟩, Hk⟩
  iapply (head_spec i arg3 arg5 arg6 arg8 arg9 arg10 d (outScale (sWord i X4)) _ hq _ hc hst X3 X5 X6 X8 X9 k Q)
  isplitl [H3]; · iexact H3
  isplitl [H5]; · iexact H5
  isplitl [H6]; · iexact H6
  isplitl [H8]; · iexact H8
  isplitl [H9]; · iexact H9
  isplitl [H10]; · iexact H10
  iintro ⟨H3, H5, H6, H8, H9, H10⟩
  iapply Hk
  isplitl [H3]; · iexact H3
  isplitl [H5]; · iexact H5
  isplitl [H6]; · iexact H6
  isplitl [H8]
  · iexists _
    isplitl [H8]; · iexact H8
    ipureintro
    intro g' hg'
    rcases Nat.lt_succ_iff_lt_or_eq.mp hg' with h | h
    · rw [rd_upd_of_disjoint _ _ _ _ (oR_apart (by omega) (by omega) (by omega))]
      exact hX g' h
    · subst h
      exact rd_upd _ _ _
  isplitl [H9]; · iexact H9
  iexact H10

/-- The values' scratch when the body starts: past the first query tile it holds the transposed values. -/
def vtKept (X7 : S1x2048x128.Idx → Elt F .fp8e4m3) : sProp 𝕄 :=
  iprop(∃ X, owns (d : Thread nD τ) arg9 fullShare X ∗ ⌜(i 2).val ≠ 0 → X = vtMat X7⌝)

/-- The transposition where due leaves the transposed values in scratch. -/
theorem init_spec (harg9 : arg9.IsWhole) (X7 : S1x2048x128.Idx → Elt F .fp8e4m3)
    {β : Type} (k : PUnit → Prog (TpuEff nD τ sig (Elt F) Λ₀ .tc) β) (Q : β → sProp 𝕄) :
    iprop(owns (d : Thread nD τ) arg7 fullShare X7 ∗ vtKept i arg9 d X7
      ∗ (iprop(owns (d : Thread nD τ) arg7 fullShare X7 ∗ owns (d : Thread nD τ) arg9 fullShare (vtMat X7))
          -∗ wp frame (wpE (defs₀ (F := F)) Variants.none d none) Set.univ (k ⟨⟩) Q))
    ⊢ wp frame (wpE (defs₀ (F := F)) Variants.none d none) Set.univ (initVt i arg7 arg9 harg9 >>= k) Q := by
  unfold initVt vtKept
  iintro ⟨H7, ⟨%X, H9, %hX⟩, Hk⟩
  by_cases h : (i 2).val = 0
  · simp only [dif_pos ((first_iff i).mpr h), bind_assoc, pure_bind]
    iapply (wp_load_owns Variants.none (d : Thread nD τ) none Set.univ) $$ H7
    iintro H7
    iapply (wp_load_owns Variants.none (d : Thread nD τ) none Set.univ) $$ H9
    iintro H9
    iapply (wp_store_owns Variants.none (d : Thread nD τ) none Set.univ) $$ H9
    iintro H9
    iapply Hk
    isplitl [H7]; · iexact H7
    rw [upd_full, rd_full]
    iexact H9
  · simp only [dif_neg (fun h' => h ((first_iff i).mp h')), pure_bind]
    iapply Hk
    isplitl [H7]; · iexact H7
    rw [← hX h]
    iexact H9

set_option maxHeartbeats 1000000 in
/-- The rule of the body: the result's block at `blockOut`, the scratch at the transposed values, everything read as it was. -/
theorem body_spec (harg8 : arg8.IsWhole) (harg9 : arg9.IsWhole) (X7 : S1x2048x128.Idx → Elt F .fp8e4m3) (Q : PUnit → sProp 𝕄) :
    iprop(owns (d : Thread nD τ) arg3 fullShare X3 ∗ owns (d : Thread nD τ) arg4 fullShare X4 ∗ owns (d : Thread nD τ) arg5 fullShare X5
      ∗ owns (d : Thread nD τ) arg6 fullShare X6 ∗ owns (d : Thread nD τ) arg7 fullShare X7 ∗ (∃ X, owns (d : Thread nD τ) arg8 fullShare X)
      ∗ vtKept i arg9 d X7 ∗ (∃ X, owns (d : Thread nD τ) arg10 fullShare X)
      ∗ (iprop(owns (d : Thread nD τ) arg3 fullShare X3 ∗ owns (d : Thread nD τ) arg4 fullShare X4 ∗ owns (d : Thread nD τ) arg5 fullShare X5
          ∗ owns (d : Thread nD τ) arg6 fullShare X6 ∗ owns (d : Thread nD τ) arg7 fullShare X7
          ∗ owns (d : Thread nD τ) arg8 fullShare (blockOut i X3 X4 X5 X6 (vtMat X7))
          ∗ owns (d : Thread nD τ) arg9 fullShare (vtMat X7) ∗ (∃ X, owns (d : Thread nD τ) arg10 fullShare X)) -∗ Q ⟨⟩))
    ⊢ wp frame (wpE (defs₀ (F := F)) Variants.none d none) Set.univ (body i arg3 arg4 arg5 arg6 arg7 arg8 arg9 arg10 harg8 harg9) Q := by
  iintro ⟨H3, H4, H5, H6, H7, ⟨%X8, H8⟩, H9, H10, Hk⟩
  unfold body
  iapply (init_spec i arg7 arg9 d harg9 X7)
  isplitl [H7]; · iexact H7
  isplitl [H9]; · iexact H9
  iintro ⟨H7, H9⟩
  iapply (wp_smemLoad_owns Variants.none (d : Thread nD τ) none Set.univ) $$ H4
  iintro H4
  ihave HB : between i arg3 arg5 arg6 arg8 arg9 arg10 d X3 X4 X5 X6 (vtMat X7) 0 $$ [H3 H5 H6 H8 H9 H10]
  · unfold between
    isplitl [H3]; · iexact H3
    isplitl [H5]; · iexact H5
    isplitl [H6]; · iexact H6
    isplitl [H8]
    · iexists X8
      isplitl [H8]; · iexact H8
      ipureintro
      exact fun _ h => absurd h (Nat.not_lt_zero _)
    isplitl [H9]; · iexact H9
    iexact H10
  iapply (head_step i arg3 arg5 arg6 arg8 arg9 arg10 d X3 X4 X5 X6 (vtMat X7) 0 (by decide) _ _ _ _ _ rfl (k0_off2_eq i))
  isplitl [HB]; · iexact HB
  iintro HB
  iapply (head_step i arg3 arg5 arg6 arg8 arg9 arg10 d X3 X4 X5 X6 (vtMat X7) 1 (by decide) _ _ _ _ _ rfl (k0_off13_eq i))
  isplitl [HB]; · iexact HB
  iintro HB
  iapply (head_step i arg3 arg5 arg6 arg8 arg9 arg10 d X3 X4 X5 X6 (vtMat X7) 2 (by decide) _ _ _ _ _ rfl (k0_off22_eq i))
  isplitl [HB]; · iexact HB
  iintro HB
  iapply (head_step i arg3 arg5 arg6 arg8 arg9 arg10 d X3 X4 X5 X6 (vtMat X7) 3 (by decide) _ _ _ _ _ rfl (k0_off31_eq i))
  isplitl [HB]; · iexact HB
  iintro HB
  iapply (head_step i arg3 arg5 arg6 arg8 arg9 arg10 d X3 X4 X5 X6 (vtMat X7) 4 (by decide) _ _ _ _ _ rfl (k0_off40_eq i))
  isplitl [HB]; · iexact HB
  iintro HB
  iapply (head_step i arg3 arg5 arg6 arg8 arg9 arg10 d X3 X4 X5 X6 (vtMat X7) 5 (by decide) _ _ _ _ _ rfl (k0_off49_eq i))
  isplitl [HB]; · iexact HB
  iintro HB
  iapply (head_step i arg3 arg5 arg6 arg8 arg9 arg10 d X3 X4 X5 X6 (vtMat X7) 6 (by decide) _ _ _ _ _ rfl (k0_off58_eq i))
  isplitl [HB]; · iexact HB
  iintro HB
  rw [← bind_pure (head i arg3 arg5 arg6 arg8 arg9 arg10 _ ![0, 0, 896] _ _ _ _)]
  iapply (head_step i arg3 arg5 arg6 arg8 arg9 arg10 d X3 X4 X5 X6 (vtMat X7) 7 (by decide) _ _ _ _ _ rfl (k0_off67_eq i))
  isplitl [HB]; · iexact HB
  iintro HB
  unfold between
  icases HB with ⟨H3, H5, H6, ⟨%X8', H8, %hX⟩, H9, H10⟩
  rw [← eq_blockOut i X3 X4 X5 X6 (vtMat X7) X8' hX]
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end

end Cert.Proof.KI

end
-- ==== Proof.FrameI.lean ====
/-
  The kernel's run: what each window's buffer holds at each grid point, that the body does it, the launch and the frame.
-/
module

public import proofs.«01_k».proof.Proof.BodyI
public import proofs.«01_k».proof.Proof.RunI
public import proofs.«01_k».proof.Proof.Gen.KernelIdeal.Frame
public import Idealize.ShloMosaic.Lib.Claim

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the result's block at point `t`. -/
def outAt (c : Dev nD) (t : Fin cfg0.N) : S1x256x1024.Idx → Elt F .bf16 :=
  blockOut (grid0.coords t) (iblk m c 0 t) (iblk m c 1 t) (iblk m c 2 t) (iblk m c 3 t) (vtMat (iblk m c 4 t))

/-- The scratch buffers before point `n`: the scores' holds anything, the transposed values' holds those of the point's
    block unless the point is the first query tile; and the generator register holds anything. -/
def scr (c : Dev nD) (n : Nat) : sProp 𝕄 :=
  iprop((∃ X, owns (c : Thread nD τ) (Memref.whole cc0_scratch0) fullShare X
      ∗ ⌜∀ t : Fin cfg0.N, t.val = n → (grid0.coords t 2).val ≠ 0 → X = vtMat (iblk m c 4 t)⌝)
    ∗ (∃ X, owns (c : Thread nD τ) (Memref.whole cc0_scratch1) fullShare X) ∗ (∃ r, prngReg c r))

/-- The pipeline's proof data: the arrays as the region finds them, each input's buffer its block, the result's what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := scr m c t.val
  q _ := fullShare
  owed _ := 0

/-- The arrays are the contents at the region's entry. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem Φ_eq (c : Dev nD) (t : Fin (cfg0.N + 1)) : (dats m 0 c).Φ t = scr m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The values' block does not move from one query tile to the next. -/
theorem index4_next : ∀ t t' : Fin grid0.N, t'.val = t.val + 1 → (grid0.coords t' 2).val ≠ 0 →
    cc0_transform_4 (grid0.coords t) = cc0_transform_4 (grid0.coords t') := by
  decide +kernel

theorem fetched4 (c : Dev nD) (t : Fin cfg0.N) (d) : (dats m 0 c).fetched 4 t d = iblk m c 4 t := by
  unfold Dat.fetched Dat.blockOf iblk; rw [A_eq]; try rfl

/-- So its contents stay. -/
theorem iblk4_next (c : Dev nD) (t t' : Fin cfg0.N) (h : t'.val = t.val + 1) (h0 : (grid0.coords t' 2).val ≠ 0) :
    iblk m c 4 t = iblk m c 4 t' := by
  rw [← fetched4 m c t (iblk m c 4 t), ← fetched4 m c t' (iblk m c 4 t)]
  exact (dats m 0 c).fetched_congr 4 (index4_next t t' h h0) rfl _

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [kernel_eq]
  simp only [before0, before1, before2, before3, before4]
  rw [show (dats m 0 c).owesAt () t.succ = (dats m 0 c).owesAt () t.castSucc from rfl,
    Φ_eq, Φ_eq, after0, after1, after2, after3, after4, after5]
  simp only [Fin.val_castSucc, Fin.val_succ]
  unfold scr outAt
  iintro ⟨⟨⟨%X9, H9, %hX⟩, HS, Hr⟩, Ho, ⟨%d0, H0⟩, ⟨%d1, H1⟩, ⟨%d2, H2⟩, ⟨%d3, H3⟩, ⟨%d4, H4⟩, ⟨%d5, H5⟩⟩
  iapply (body_spec (grid0.coords t) _ _ _ _ _ _ (Memref.whole cc0_scratch0) (Memref.whole cc0_scratch1) c
    (iblk m c 0 t) (iblk m c 1 t) (iblk m c 2 t) (iblk m c 3 t) _ _ (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H9]
  · unfold vtKept
    iexists X9
    isplitl [H9]; · iexact H9
    ipureintro
    exact hX t rfl
  isplitl [HS]; · iexact HS
  iintro ⟨H0, H1, H2, H3, H4, H5, H9, HS⟩
  isplitl [H9 HS Hr]
  · isplitl [H9]
    · iexists _
      isplitl [H9]; · iexact H9
      ipureintro
      intro t' ht' h0
      rw [iblk4_next m c t t' ht' h0]
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers may hold anything when the region is entered. -/
theorem scr_in (c : Dev nD) : Pipeline.ΦA spec0 c ⊢ (dats (F := F) m 0 c).Φ 0 := by
  rw [Φ_eq]
  unfold Pipeline.ΦA scr
  rw [scopedRest0_eq]
  simp only [owns_whole_eq]
  iintro ⟨⟨⟨%f, H0⟩, ⟨%g, H1⟩⟩, Hr⟩
  isplitl [H0]
  · iexists f
    isplitl [H0]
    · iexists f; isplitr; · ipureintro; rfl
      iexact H0
    ipureintro
    intro t ht h0
    have h : ∀ t : Fin grid0.N, t.val = 0 → (grid0.coords t 2).val = 0 := by decide +kernel
    exact absurd (h t ht) h0
  isplitl [H1]
  · iexists g; iexists g; isplitr; · ipureintro; rfl
    iexact H1
  iexact Hr

/-- What they hold at the end is forgotten. -/
theorem scr_out (c : Dev nD) : (dats (F := F) m 0 c).Φ (Fin.last cfg0.N) ⊢ Pipeline.ΦA spec0 c := by
  rw [Φ_eq]
  unfold Pipeline.ΦA scr
  rw [scopedRest0_eq]
  simp only [owns_whole_eq]
  iintro ⟨⟨%X, ⟨%f, -, H0⟩, -⟩, ⟨%Y, %g, -, H1⟩, Hr⟩
  isplitl [H0 H1]
  · isplitl [H0]; · iexists f; iexact H0
    iexists g; iexact H1
  iexact Hr

set_option backward.isDefEq.respectTransparency.types false in
/-- The launch: every fair run ends with the pipeline's arrays as the proof data says, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scr_in m) (hout := scr_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every fair run ends, the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KI

end
-- ==== Proof.Weights.lean ====
/-
  The attention weights as extended reals: the exponential of a soft-capped score, and that the two orders of computing
  a weight's code (the exponentials scaled by 256 over their sum; the softmax of the masked scores times 256) agree.
-/
module

public import Idealize.ShloMosaic.Lib.Pointwise
public import Idealize.ShloMosaic.PureOps.Ideal

@[expose] public section

noncomputable section

namespace Cert.Proof

open Idealize.ShloMosaic

theorem ofBits_fifty : Ideal.ofBits .f32 0x42480000#32 = ((50 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul, -EReal.coe_neg]; norm_num

/-- A hyperbolic tangent is a real number. -/
theorem tanh_real (x : EReal) : ∃ t : ℝ, Ideal.tanh x = (t : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The soft-capped score. -/
def capped (x : EReal) : EReal := ((50 : ℝ) : EReal) * Ideal.tanh x

theorem capped_real (x : EReal) : ∃ t : ℝ, capped x = (t : EReal) := by
  obtain ⟨t, ht⟩ := tanh_real x
  exact ⟨50 * t, by rw [capped, ht]; norm_cast⟩

/-- The base-2 exponential with the cap's factor over log 2 is the exponential of the soft-capped score. -/
theorem exp2_capped (x : EReal) :
    Ideal.exp2 (((50 * (Real.log 2)⁻¹ : ℝ) : EReal) * Ideal.tanh x) = Ideal.exp (capped x) := by
  obtain ⟨t, ht⟩ := tanh_real x
  rw [capped, ht, ← EReal.coe_mul, ← EReal.coe_mul, Ideal.exp2_coe, Ideal.exp_coe]
  congr 1
  show (2 : ℝ) ^ (50 * (Real.log 2)⁻¹ * t) = Real.exp (50 * t)
  rw [Real.rpow_def_of_pos (by norm_num)]
  congr 1
  have h : Real.log 2 ≠ 0 := (Real.log_pos (by norm_num)).ne'
  field_simp

variable {n : ℕ}

/-- Key `s`'s exponential for query `q`: zero for a key after it. -/
def expo (z : Fin n → EReal) (q s : Fin n) : EReal := if s ≤ q then Ideal.exp (capped (z s)) else 0

/-- A query's exponentials are real numbers with a positive sum. -/
theorem expo_real (z : Fin n → EReal) (q : Fin n) :
    ∃ w : Fin n → ℝ, (∀ s, expo z q s = (w s : EReal)) ∧ 0 < ∑ s, w s := by
  choose t ht using fun s => capped_real (z s)
  refine ⟨fun s => if s ≤ q then Real.exp (t s) else 0, fun s => ?_, ?_⟩
  · unfold expo
    by_cases h : s ≤ q
    · simp only [if_pos h, ht, Ideal.exp_coe]
    · simp only [if_neg h, EReal.coe_zero]
  · refine Finset.sum_pos' (fun s _ => ?_) ⟨q, Finset.mem_univ _, ?_⟩
    · split_ifs
      · exact (Real.exp_pos _).le
      · exact le_rfl
    · rw [if_pos le_rfl]; exact Real.exp_pos _

/-- The code of a weight before rounding: clipped to plus or minus 448. -/
def clip (x : EReal) : EReal := min ((448 : ℝ) : EReal) (max ((-448 : ℝ) : EReal) x)

theorem clip_zero : clip 0 = 0 := by
  unfold clip
  rw [max_eq_right (by norm_cast), min_eq_right (by norm_cast)]

/-- The code of key `s` for query `q`. -/
def code (z : Fin n → EReal) (q s : Fin n) : EReal :=
  clip (expo z q s * Ideal.div ((256 : ℝ) : EReal) (∑ s', expo z q s'))

/-- A sum of reals, as an extended real. -/
theorem coe_sum {ι : Type} (S : Finset ι) (w : ι → ℝ) : ((∑ s ∈ S, w s : ℝ) : EReal) = ∑ s ∈ S, (w s : EReal) := by
  classical
  induction S using Finset.induction_on with
  | empty => simp
  | insert a S h ih => rw [Finset.sum_insert h, Finset.sum_insert h, EReal.coe_add, ih]

/-- A key after the query has code zero. -/
theorem code_after (z : Fin n → EReal) (q s : Fin n) (h : ¬ s ≤ q) : code z q s = 0 := by
  obtain ⟨w, hw, hs⟩ := expo_real z q
  rw [code, show expo z q s = 0 from if_neg h, zero_mul, clip_zero]

/-- The masked soft-capped score. -/
def masked (z : Fin n → EReal) (q s : Fin n) : EReal := if s ≤ q then capped (z s) else ⊥

/-- The largest masked score is a real number. -/
theorem top_real (z : Fin n → EReal) (q : Fin n) :
    ∃ M : ℝ, max ⊥ (Finset.univ.fold max ⊥ (masked z q)) = (M : EReal) := by
  rw [max_eq_right bot_le]
  have h1 : Finset.univ.fold max ⊥ (masked z q) ≠ ⊤ := by
    apply ne_of_lt
    rw [Finset.fold_max_lt]
    refine ⟨bot_lt_top, fun s _ => ?_⟩
    obtain ⟨t, ht⟩ := capped_real (z s)
    unfold masked
    split_ifs
    · rw [ht]; exact EReal.coe_lt_top _
    · exact bot_lt_top
  have h2 : Finset.univ.fold max ⊥ (masked z q) ≠ ⊥ := by
    apply ne_of_gt
    rw [Finset.lt_fold_max]
    refine .inr ⟨q, Finset.mem_univ _, ?_⟩
    obtain ⟨t, ht⟩ := capped_real (z q)
    rw [masked, if_pos le_rfl, ht]; exact EReal.bot_lt_coe _
  exact ⟨_, (EReal.coe_toReal h1 h2).symm⟩

/-- The softmax's weight times 256 is the exponential times 256 over the exponentials' sum. -/
theorem softmax_eq (z : Fin n → EReal) (q s : Fin n) :
    Ideal.div (Ideal.exp (masked z q s - max ⊥ (Finset.univ.fold max ⊥ (masked z q))))
        (∑ s', Ideal.exp (masked z q s' - max ⊥ (Finset.univ.fold max ⊥ (masked z q)))) * ((256 : ℝ) : EReal)
      = expo z q s * Ideal.div ((256 : ℝ) : EReal) (∑ s', expo z q s') := by
  obtain ⟨M, hM⟩ := top_real z q
  obtain ⟨w, hw, hs⟩ := expo_real z q
  have he : ∀ s, Ideal.exp (masked z q s - max ⊥ (Finset.univ.fold max ⊥ (masked z q))) = ((w s * Real.exp (-M) : ℝ) : EReal) := by
    intro s
    rw [hM, EReal.coe_mul, ← hw]
    unfold masked expo
    split_ifs
    · obtain ⟨t, ht⟩ := capped_real (z s)
      rw [ht, ← EReal.coe_sub, Ideal.exp_coe, Ideal.exp_coe, ← EReal.coe_mul, sub_eq_add_neg, Real.exp_add]
    · rw [zero_mul, EReal.bot_sub]; exact Ideal.exp_bot
  have hE := Real.exp_pos (-M)
  simp only [he, hw]
  rw [← coe_sum, ← coe_sum, ← Finset.sum_mul, Ideal.div_coe (by positivity), Ideal.div_coe hs.ne', ← EReal.coe_mul, ← EReal.coe_mul,
    ← EReal.coe_mul, ← EReal.coe_mul]
  congr 1
  field_simp

end Cert.Proof

end
-- ==== Proof.Attention.lean ====
/-
  The result both programs compute, element by element, as a function of the six arguments.
-/
module

public import proofs.«01_k».proof.Proof.Weights

@[expose] public section

noncomputable section

namespace Cert.Proof

open Idealize.ShloMosaic

abbrev SX : Shape := ⟨3, ![8, 2048, 2048]⟩
abbrev SK : Shape := ⟨3, ![8, 2048, 256]⟩
abbrev SQ : Shape := ⟨1, ![16]⟩
abbrev SH : Shape := ⟨1, ![2]⟩

/-- The key head of a column of the result. -/
def kvHead (col : Fin 2048) : Fin 2 := ⟨col.val / 1024, by omega⟩
/-- Its query head. -/
def qHead (col : Fin 2048) : Fin 16 := ⟨col.val / 128, by omega⟩
/-- Its place in the head. -/
def inHead (col : Fin 2048) : Fin 128 := ⟨col.val % 128, by omega⟩
/-- Place `d` of key head `h`. -/
def kvCol (h : Fin 2) (d : Fin 128) : Fin 256 := ⟨h.val * 128 + d.val, by omega⟩
/-- Place `d` of query head `a`. -/
def qCol (a : Fin 16) (d : Fin 128) : Fin 2048 := ⟨a.val * 128 + d.val, by omega⟩

section
variable (X : SX.Idx → EReal) (Q : SQ.Idx → EReal) (K : SK.Idx → EReal) (KS : SH.Idx → EReal) (V : SK.Idx → EReal) (VS : SH.Idx → EReal)

/-- What a head's scores are multiplied by before the hyperbolic tangent. -/
def factor (col : Fin 2048) : EReal :=
  Q (ix1 (qHead col)) * KS (ix1 (kvHead col)) * Ideal.ofBits .f32 0x3DB504F3#32 * Ideal.ofBits .f32 0x3CA3D70A#32

/-- The scaled score of query `q` against key `s`. -/
def scaled (b : Fin 8) (q col s : Fin 2048) : EReal :=
  (∑ d : Fin 128, K (ix3 b s (kvCol (kvHead col) d)) * X (ix3 b q (qCol (qHead col) d))) * factor Q KS col

/-- One element of the result. -/
def attend (b : Fin 8) (q col : Fin 2048) : EReal :=
  (∑ s : Fin 2048, V (ix3 b s (kvCol (kvHead col) (inHead col))) * code (scaled X Q K KS b q col) q s)
    * (VS (ix1 (kvHead col)) * Ideal.ofBits .f32 0x3B800000#32)

/-- The result. -/
def attention : SX.Idx → EReal := fun y => attend X Q K KS V VS (y 0) (y 1) (y 2)

end

end Cert.Proof

end
-- ==== Proof.TileValue.lean ====
/-
  One head's vector values over the extended reals, element by element.
-/
module

public import proofs.«01_k».proof.Proof.HeadI
public import proofs.«01_k».proof.Proof.Weights
public import Idealize.ShloMosaic.Lib.WordCmp

@[expose] public section

set_option maxRecDepth 16384

noncomputable section

namespace Cert.Proof.KI

open Cert.KernelIdeal Cert.KernelIdeal.Gen
open Idealize.ShloMosaic

theorem cap_eq : (cap : Ideal .f32) = ((50 * (Real.log 2)⁻¹ : ℝ) : EReal) :=
  IdealRules.named_const.ideal_named_scalar _ _ _ _ rfl

theorem scoreTile_apply (v : Vec Ideal S1x256x128 .fp8e4m3) (c : Ideal .f32) (kb : Vec Ideal S1x256x128 .fp8e4m3) (k r : Fin 256) :
    scoreTile v c kb (ix2 k r) = Ideal.exp (capped ((∑ d : Fin 128, kb (ix3 0 k d) * v (ix3 0 r d)) * c)) := by
  rw [← exp2_capped, ← cap_eq]
  pointwise [scoreTile, qMat, exp2, tanh, dot_S256x128_S256x128_S256x256_1_1_0_0_n_n]
  rfl

theorem diagTile_apply (v : Vec Ideal S1x256x128 .fp8e4m3) (c : Ideal .f32) (kb : Vec Ideal S1x256x128 .fp8e4m3) (k r : Fin 256) :
    diagTile v c kb (ix2 k r) = if k ≤ r then scoreTile v c kb (ix2 k r) else 0 := by
  pointwise [diagTile, maskI]
  have hk := k.isLt
  have hr := r.isLt
  unfold Scalar.select
  exact if_congr ((WordCmp.cmpi_sle_ofNat_eq_one_iff (by omega) (by omega)).trans Iff.rfl) rfl rfl

theorem partSum_apply (e : FVec Ideal S256x256 .f32) (a : Fin 8) (r : Fin 256) :
    partSum e (ix2 a r) = ∑ t : Fin 32, e (ix2 ⟨t.val * 8 + a.val, by omega⟩ r) := by
  pointwise [partSum]

theorem recip_apply (l : FVec Ideal S8x256 .f32) (r : Fin 256) :
    recip l (ix2 0 r) = Ideal.div ((256 : ℝ) : EReal) (∑ a : Fin 8, l (ix2 a r)) := by
  rw [← ofBits_256]
  pointwise [recip]

theorem codes_apply (R : FVec Ideal S1x256 .f32) (e : Vec Ideal S256x256 .f32) (k r : Fin 256) :
    codes R e (ix2 k r) = clip (e (ix2 k r) * R (ix2 0 r)) := by
  rw [clip, ← ofBits_448, ← ofBits_neg_448]
  pointwise [codes]

theorem pvStep_apply (R : FVec Ideal S1x256 .f32) (acc : FVec Ideal S128x256 .f32) (e : Vec Ideal S256x256 .f32) (vb : Vec Ideal S128x256 .fp8e4m3)
    (d : Fin 128) (r : Fin 256) :
    pvStep R acc e vb (ix2 d r) = acc (ix2 d r) + ∑ k : Fin 256, vb (ix2 d k) * codes R e (ix2 k r) := by
  pointwise [pvStep, dot_S128x256_S256x256_S128x256_1_0_0_1_n_n]

theorem outTile_apply (s : Ideal .f32) (acc : FVec Ideal S128x256 .f32) (r : Fin 256) (d : Fin 128) :
    outTile s acc (ix3 0 r d) = acc (ix2 d r) * s := by
  pointwise [outTile]

theorem vtMat_apply (v : Vec Ideal S1x2048x128 .fp8e4m3) (d : Fin 128) (s : Fin 2048) :
    vtMat v (ix2 d s) = v (ix3 0 s d) := by
  pointwise [vtMat, dot_S128x128_S2048x128_S128x2048_1_1_0_0_n_n]
  have h : ∀ x : Fin 128, Scalar.select (IntOp.cmpi .eq (BitVec.ofNat 32 d.val) (BitVec.ofNat 32 x.val)) (v (ix3 0 s x)) 0
      = if d = x then v (ix3 0 s x) else 0 := by
    intro x
    have hd := d.isLt
    have hx := x.isLt
    unfold Scalar.select
    exact if_congr ((WordCmp.cmpi_eq_ofNat_eq_one_iff (by omega) (by omega)).trans Fin.ext_iff.symm) rfl rfl
  simp only [h]
  rw [Finset.sum_ite_eq]
  exact if_pos (Finset.mem_univ _)

theorem outScale_apply (x : Ideal .f32) : outScale x = x * Ideal.ofBits .f32 0x3B800000#32 := rfl

end Cert.Proof.KI

end
-- ==== Proof.HeadValue.lean ====
/-
  One head's result over the extended reals: each query's codes against the values, over all keys.
-/
module

public import proofs.«01_k».proof.Proof.TileValue
public import proofs.«01_k».proof.Proof.SpecI

@[expose] public section

set_option maxRecDepth 16384

noncomputable section

namespace Cert.Proof.KI

open Cert.KernelIdeal Cert.KernelIdeal.Gen
open Idealize.ShloMosaic

/-- The place in the sequence of row `k` of tile `j`. -/
def pos (j : ℕ) (k : Fin 256) : Fin 2048 := ⟨256 * (j % 8) + k.val, by omega⟩

/-- A sum over the tiles up to `n` is the sum over all places, of what vanishes after them. -/
theorem sum_tiles (f : Fin 2048 → EReal) (n : ℕ) (hn : n < 8) (h : ∀ s : Fin 2048, 256 * (n + 1) ≤ s.val → f s = 0) :
    ∑ j ∈ Finset.range (n + 1), ∑ k : Fin 256, f (pos j k) = ∑ s, f s := by
  rw [Fin.sum_univ_tiles 8 256 rfl f, ← Fin.sum_univ_eq_sum_range (fun j => ∑ k : Fin 256, f (pos j k)),
    show (∑ j : Fin 8, ∑ t : Fin 256, f ⟨j.val * 256 + t.val, by omega⟩) = ∑ j : Fin 8, ∑ k : Fin 256, f (pos j.val k) from
      Finset.sum_congr rfl fun j _ => Finset.sum_congr rfl fun k _ => congrArg f (Fin.ext (by
        show j.val * 256 + k.val = 256 * (j.val % 8) + k.val
        rw [Nat.mod_eq_of_lt j.isLt, Nat.mul_comm])),
    Fin.sum_univ_eq_sum_range (fun j => ∑ k : Fin 256, f (pos j k)), Fin.sum_univ_eq_sum_range (fun j => ∑ k : Fin 256, f (pos j k))]
  refine Finset.sum_subset (Finset.range_subset_range.mpr (by omega)) fun j h1 h2 => Finset.sum_eq_zero fun k _ => h _ ?_
  rw [Finset.mem_range] at h1 h2
  show 256 * (n + 1) ≤ 256 * (j % 8) + k.val
  rw [Nat.mod_eq_of_lt h1]; omega

theorem kR_apply (X : S1x2048x128.Idx → Elt Ideal .fp8e4m3) (j : ℕ) (k : Fin 256) (d : Fin 128) :
    rd (kR j) X (ix3 0 k d) = X (ix3 0 (pos j k) d) := by
  unfold rd
  congr 1
  funext a
  apply Fin.ext
  rw [unit_emb_val]
  fin_cases a
  · rfl
  · rfl
  · exact Nat.zero_add _

theorem vR_apply (X : S128x2048.Idx → Elt Ideal .fp8e4m3) (j : ℕ) (d : Fin 128) (k : Fin 256) :
    rd (vR j) X (ix2 d k) = X (ix2 d (pos j k)) := by
  unfold rd
  congr 1
  funext a
  apply Fin.ext
  rw [unit_emb_val]
  fin_cases a
  · exact Nat.zero_add _
  · rfl

section
variable (v : Vec Ideal S1x256x128 .fp8e4m3) (c : Ideal .f32) (X6 : S1x2048x128.Idx → Elt Ideal .fp8e4m3)
  (X9 : S128x2048.Idx → Elt Ideal .fp8e4m3) (n : ℕ)

/-- Query `r`'s scaled score against key `s`. -/
def score (r : Fin 256) (s : Fin 2048) : EReal := (∑ d : Fin 128, X6 (ix3 0 s d) * v (ix3 0 r d)) * c

theorem eTile_apply (hn : n < 8) (j : ℕ) (hj : j ≤ n) (k r : Fin 256) :
    eTile v c X6 n j (ix2 k r) = expo (score v c X6 r) (pos n r) (pos j k) := by
  have h : ∀ k : Fin 256, scoreTile v c (rd (kR j) X6) (ix2 k r) = Ideal.exp (capped (score v c X6 r (pos j k))) := by
    intro k
    rw [scoreTile_apply, score]
    exact congrArg (fun x => Ideal.exp (capped (x * c))) (Finset.sum_congr rfl fun d _ => congrArg (· * v (ix3 0 r d)) (kR_apply X6 j k d))
  have hjn : (pos j k ≤ pos n r) ↔ (256 * j + k.val ≤ 256 * n + r.val) := by
    rw [Fin.le_def]
    show 256 * (j % 8) + k.val ≤ 256 * (n % 8) + r.val ↔ _
    rw [Nat.mod_eq_of_lt hn, Nat.mod_eq_of_lt (lt_of_le_of_lt hj hn)]
  unfold eTile expo
  by_cases hlt : j < n
  · rw [if_pos hlt, h, if_pos (hjn.mpr (by omega))]
  · rw [if_neg hlt, diagTile_apply, h]
    have : j = n := by omega
    subst this
    refine if_congr ?_ rfl rfl
    rw [hjn, Fin.le_def]; omega

theorem eKept_eq (j : ℕ) : eKept v c X6 n j = eTile v c X6 n j := by
  unfold eKept; exact shapeCast_id _ _

theorem lSum_apply (a : Fin 8) (r : Fin 256) (j : ℕ) :
    lSum v c X6 n j (ix2 a r) = ∑ j' ∈ Finset.range j, ∑ t : Fin 32, eTile v c X6 n j' (ix2 ⟨t.val * 8 + a.val, by omega⟩ r) := by
  induction j with
  | zero =>
    rw [Finset.range_zero, Finset.sum_empty]
    exact Ideal.ofBits_zero_f32
  | succ j ih =>
    rw [Finset.sum_range_succ, ← ih, ← partSum_apply]
    rfl

/-- The eight partial sums together are the sum of a query's exponentials. -/
theorem lSum_total (hn : n < 8) (r : Fin 256) :
    ∑ a : Fin 8, lSum v c X6 n (n + 1) (ix2 a r) = ∑ s, expo (score v c X6 r) (pos n r) s := by
  rw [← sum_tiles _ n hn]
  · simp only [lSum_apply]
    rw [Finset.sum_comm]
    refine Finset.sum_congr rfl fun j hj => ?_
    rw [Finset.sum_comm, ← Fin.sum_univ_tiles 32 8 rfl (fun k : Fin 256 => eTile v c X6 n j (ix2 k r))]
    refine Finset.sum_congr rfl fun k _ => ?_
    exact eTile_apply v c X6 n hn j (by have := Finset.mem_range.mp hj; omega) k r
  · intro s hs
    refine if_neg fun hle => ?_
    rw [Fin.le_def] at hle
    have : (pos n r).val = 256 * (n % 8) + r.val := rfl
    rw [Nat.mod_eq_of_lt hn] at this
    omega

theorem pSum_apply (R : FVec Ideal S1x256 .f32) (d : Fin 128) (r : Fin 256) (j : ℕ) :
    pSum v c X6 X9 n R j (ix2 d r)
      = ∑ j' ∈ Finset.range j, ∑ k : Fin 256, X9 (ix2 d (pos j' k)) * clip (eTile v c X6 n j' (ix2 k r) * R (ix2 0 r)) := by
  induction j with
  | zero =>
    rw [Finset.range_zero, Finset.sum_empty]
    exact Ideal.ofBits_zero_f32
  | succ j ih =>
    rw [Finset.sum_range_succ, ← ih]
    show pvStep R (pSum v c X6 X9 n R j) (eKept v c X6 n j) (rd (vR j) X9) (ix2 d r) = _
    rw [pvStep_apply]
    refine congrArg (pSum v c X6 X9 n R j (ix2 d r) + ·) (Finset.sum_congr rfl fun k _ => ?_)
    rw [codes_apply, eKept_eq]
    exact congrArg (· * clip _) (vR_apply X9 j d k)

/-- A head's result. -/
theorem headOut_apply (hn : n < 8) (s : Ideal .f32) (r : Fin 256) (d : Fin 128) :
    headOut v c X6 X9 n s (ix3 0 r d) = (∑ k : Fin 2048, X9 (ix2 d k) * code (score v c X6 r) (pos n r) k) * s := by
  unfold headOut
  rw [outTile_apply, pSum_apply, recip_apply, lSum_total v c X6 n hn,
    ← sum_tiles (fun k => X9 (ix2 d k) * code (score v c X6 r) (pos n r) k) n hn]
  · refine congrArg (· * s) ?_
    refine Finset.sum_congr rfl fun j hj => Finset.sum_congr rfl fun k _ => ?_
    rw [eTile_apply v c X6 n hn j (by have := Finset.mem_range.mp hj; omega), code]
  · intro k hk
    show X9 (ix2 d k) * code (score v c X6 r) (pos n r) k = 0
    rw [code_after, mul_zero]
    intro hle
    rw [Fin.le_def] at hle
    have : (pos n r).val = 256 * (n % 8) + r.val := rfl
    rw [Nat.mod_eq_of_lt hn] at this
    omega

end

end Cert.Proof.KI

end
-- ==== Proof.KernelValue.lean ====
/-
  The kernel's result array over the extended reals.
-/
module

public import proofs.«01_k».proof.Proof.Attention
public import proofs.«01_k».proof.Proof.HeadValue
public import proofs.«01_k».proof.Proof.FrameI
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ)

theorem index2 : ∀ t : Fin cfg0.N, win0_2.index t = ![(grid0.coords t 0).val, (grid0.coords t 2).val, (grid0.coords t 1).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)
theorem index4 : ∀ t : Fin cfg0.N, win0_4.index t = ![(grid0.coords t 0).val, 0, (grid0.coords t 1).val] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)
theorem index0 : ∀ t : Fin cfg0.N, win0_0.index t = ![0, 0] := (by decide +kernel : ∀ t : Fin grid0.N, _)
theorem index1 : ∀ t : Fin cfg0.N, win0_1.index t = ![0] := (by decide +kernel : ∀ t : Fin grid0.N, _)

/-- The arguments as arrays. -/
abbrev aX (c : Dev nD) : SX.Idx → EReal := m ((c : Thread nD τ).loc main_arg0)
abbrev aQ (c : Dev nD) : SQ.Idx → EReal := m ((c : Thread nD τ).loc main_arg1)
abbrev aK (c : Dev nD) : SK.Idx → EReal := m ((c : Thread nD τ).loc main_arg2)
abbrev aKS (c : Dev nD) : SH.Idx → EReal := m ((c : Thread nD τ).loc main_arg3)
abbrev aV (c : Dev nD) : SK.Idx → EReal := m ((c : Thread nD τ).loc main_arg4)
abbrev aVS (c : Dev nD) : SH.Idx → EReal := m ((c : Thread nD τ).loc main_arg5)

/-- The score factors the region finds. -/
theorem factors (c : Dev nD) (h : Fin 2) (g : Fin 8) :
    V m c main_v7 (ix2 h g) = aQ m c (ix1 ⟨h.val * 8 + g.val, by omega⟩) * aKS m c (ix1 h) * Ideal.ofBits .f32 0x3DB504F3#32 * Ideal.ofBits .f32 0x3CA3D70A#32 := by
  entry_read
  pointwise

/-- The batch entry, key head and query tile of a grid point. -/
def batchOf (i : grid0.Coords) : Fin 8 := ⟨(i 0).val, (i 0).isLt⟩
def kvOf (i : grid0.Coords) : Fin 2 := ⟨(i 1).val, (i 1).isLt⟩
def tileOf (i : grid0.Coords) : Fin 8 := ⟨(i 2).val, (i 2).isLt⟩

theorem blk0 (c : Dev nD) (t : Fin cfg0.N) (h : Fin 2) (g : Fin 8) : iblk m c 0 t (ix2 h g) = V m c main_v7 (ix2 h g) := by
  blk_simp [iblk]
  congr 1
  blk_ext [index0]

theorem blk1 (c : Dev nD) (t : Fin cfg0.N) (h : Fin 2) : iblk m c 1 t (ix1 h) = aVS m c (ix1 h) := by
  blk_simp [iblk]
  rw [V_main_arg5]
  congr 1
  blk_ext [index1]

/-- Column `l` of key head `h`'s block of the queries. -/
def blkCol (h : Fin 2) (l : Fin 1024) : Fin 2048 := ⟨h.val * 1024 + l.val, by omega⟩

theorem blk2 (c : Dev nD) (t : Fin cfg0.N) (r : Fin 256) (l : Fin 1024) :
    iblk m c 2 t (ix3 0 r l) = aX m c (ix3 (batchOf (grid0.coords t)) (pos (tileOf (grid0.coords t)).val r) (blkCol (kvOf (grid0.coords t)) l)) := by
  have h2 : (tileOf (grid0.coords t)).val < 8 := (grid0.coords t 2).isLt
  blk_simp [iblk]
  rw [V_main_arg0]
  congr 1
  unfold pos blkCol batchOf kvOf tileOf at *
  blk_ext [index2, Nat.mod_eq_of_lt h2]

theorem blk3 (c : Dev nD) (t : Fin cfg0.N) (s : Fin 2048) (d : Fin 128) :
    iblk m c 3 t (ix3 0 s d) = aK m c (ix3 (batchOf (grid0.coords t)) s (kvCol (kvOf (grid0.coords t)) d)) := by
  blk_simp [iblk]
  rw [V_main_arg2]
  congr 1
  unfold kvCol batchOf kvOf
  blk_ext [index3]

theorem blk4 (c : Dev nD) (t : Fin cfg0.N) (s : Fin 2048) (d : Fin 128) :
    iblk m c 4 t (ix3 0 s d) = aV m c (ix3 (batchOf (grid0.coords t)) s (kvCol (kvOf (grid0.coords t)) d)) := by
  blk_simp [iblk]
  rw [V_main_arg4]
  congr 1
  unfold kvCol batchOf kvOf
  blk_ext [index4]

theorem cWord_apply (i : grid0.Coords) (X3 : S2x8.Idx → Elt Ideal .f32) (g : ℕ) :
    cWord i X3 g = X3 (ix2 (kvOf i) ⟨g % 8, Nat.mod_lt _ (by decide)⟩) := by
  unfold cWord word2
  congr 1
  funext a
  apply Fin.ext
  rw [unit_emb_val]
  fin_cases a <;> rfl

theorem off1_at : ∀ i : grid0.Coords, k0_off1 i = ![(i 1).val] := by decide +kernel

theorem sWord_apply (i : grid0.Coords) (X4 : S2.Idx → Elt Ideal .f32) : sWord i X4 = X4 (ix1 (kvOf i)) := by
  unfold sWord
  congr 1
  funext a
  apply Fin.ext
  rw [unit_emb_val]
  have h := congrFun (off1_at i) a
  fin_cases a
  exact (congrArg (· + 0) h).trans (Nat.add_zero _)

theorem oR_apply (X : S1x256x1024.Idx → Elt Ideal .fp8e4m3) (g : Fin 8) (r : Fin 256) (d : Fin 128) :
    rd (oR g.val) X (ix3 0 r d) = X (ix3 0 r ⟨128 * g.val + d.val, by omega⟩) := by
  unfold rd
  congr 1
  funext a
  apply Fin.ext
  rw [unit_emb_val]
  fin_cases a
  · rfl
  · exact Nat.zero_add _
  · show 128 * (g.val % 8) + d.val = _
    rw [Nat.mod_eq_of_lt g.isLt]
    rfl

/-- One element of a block of the result. -/
theorem outAt_apply (c : Dev nD) (t : Fin cfg0.N) (r : Fin 256) (l : Fin 1024) :
    outAt m c t (ix3 0 r l) = attend (aX m c) (aQ m c) (aK m c) (aKS m c) (aV m c) (aVS m c) (batchOf (grid0.coords t))
      (pos (tileOf (grid0.coords t)).val r) (blkCol (kvOf (grid0.coords t)) l) := by
  have h2 : (tileOf (grid0.coords t)).val < 8 := (grid0.coords t 2).isLt
  have h1 : (kvOf (grid0.coords t)).val < 2 := (kvOf (grid0.coords t)).isLt
  have hl := l.isLt
  have hkv : kvHead (blkCol (kvOf (grid0.coords t)) l) = kvOf (grid0.coords t) := Fin.ext (by
    show ((kvOf (grid0.coords t)).val * 1024 + l.val) / 1024 = (kvOf (grid0.coords t)).val; omega)
  have hin : inHead (blkCol (kvOf (grid0.coords t)) l) = ⟨l.val % 128, Nat.mod_lt _ (by decide)⟩ := Fin.ext (by
    show ((kvOf (grid0.coords t)).val * 1024 + l.val) % 128 = l.val % 128; omega)
  show headOut (rd (oR (l.val / 128)) (iblk m c 2 t)) (cWord (grid0.coords t) (iblk m c 0 t) (l.val / 128)) (iblk m c 3 t) (vtMat (iblk m c 4 t))
    (tileOf (grid0.coords t)).val (outScale (sWord (grid0.coords t) (iblk m c 1 t))) (ix3 0 r ⟨l.val % 128, Nat.mod_lt _ (by decide)⟩) = _
  rw [headOut_apply _ _ _ _ _ h2, outScale_apply, sWord_apply, blk1, cWord_apply, blk0, factors]
  unfold attend
  rw [hkv, hin]
  refine congrArg (· * _) (Finset.sum_congr rfl fun s _ => ?_)
  rw [vtMat_apply, blk4]
  refine congrArg (_ * code · _ _) (funext fun s => ?_)
  unfold score scaled factor
  rw [hkv, show qHead (blkCol (kvOf (grid0.coords t)) l) = ⟨(kvOf (grid0.coords t)).val * 8 + l.val / 128 % 8, by omega⟩ from Fin.ext (by
    show ((kvOf (grid0.coords t)).val * 1024 + l.val) / 128 = (kvOf (grid0.coords t)).val * 8 + l.val / 128 % 8; omega)]
  refine congrArg (· * _) (Finset.sum_congr rfl fun d _ => ?_)
  rw [blk3]
  refine congrArg (_ * ·) ?_
  refine (oR_apply (iblk m c 2 t) ⟨l.val / 128, by omega⟩ r d).trans ?_
  rw [blk2]
  congr 2
  apply Fin.ext
  show (kvOf (grid0.coords t)).val * 1024 + (128 * (l.val / 128) + d.val) = ((kvOf (grid0.coords t)).val * 8 + l.val / 128 % 8) * 128 + d.val
  omega

/-- Where a block's element stands in the result. -/
theorem emb5 (t : Fin cfg0.N) (y : S1x256x1024.Idx) :
    (win0_5.blk t).view.emb y = (ix3 (batchOf (grid0.coords t)) (pos (tileOf (grid0.coords t)).val (y 1)) (blkCol (kvOf (grid0.coords t)) (y 2)) : SX.Idx) := by
  have h2 : (grid0.coords t 2).val < 8 := (grid0.coords t 2).isLt
  have h0 : (y 0).val < 1 := (y 0).isLt
  unfold pos blkCol batchOf kvOf tileOf
  blk_ext [index5, Nat.mod_eq_of_lt h2]

theorem attention_ix3 (X : SX.Idx → EReal) (Q : SQ.Idx → EReal) (K : SK.Idx → EReal) (KS : SH.Idx → EReal) (V : SK.Idx → EReal) (VS : SH.Idx → EReal)
    (b : Fin 8) (q col : Fin 2048) : attention X Q K KS V VS (ix3 b q col) = attend X Q K KS V VS b q col := rfl

theorem outAt_eq (c : Dev nD) (t : Fin cfg0.N) (y : S1x256x1024.Idx) :
    outAt m c t y = attend (aX m c) (aQ m c) (aK m c) (aKS m c) (aV m c) (aVS m c) (batchOf (grid0.coords t))
      (pos (tileOf (grid0.coords t)).val (y 1)) (blkCol (kvOf (grid0.coords t)) (y 2)) := by
  refine (congrArg (outAt m c t) ?_).trans (outAt_apply m c t (y 1) (y 2))
  funext a
  fin_cases a
  · exact Subsingleton.elim (α := Fin 1) _ _
  · rfl
  · rfl

/-- The result array. -/
theorem final (c : Dev nD) : (dats m 0 c).arrAt 5 cfg0.N = attention (aX m c) (aQ m c) (aK m c) (aKS m c) (aV m c) (aVS m c) := by
  refine (dats m 0 c).arrAt_eq_of_covers 5 _ (by decide +kernel) fun t hf y => ?_
  blk_simp
  rw [after5]
  exact (outAt_eq m c t y).trans ((attention_ix3 _ _ _ _ _ _ _ _ _).symm.trans (congrArg _ (emb5 t y).symm))

end Cert.Proof.KI

end
-- ==== Proof.RefStages.lean ====
/-
  The reference's operations on whole arrays, in the stages in which they are read, over the extended reals.
-/
module

public import proofs.«01_k».proof.Proof.Attention
public import proofs.«01_k».proof.Proof.Gen.ReferenceIdeal.Launch

@[expose] public section

set_option maxRecDepth 16384

noncomputable section

namespace Cert.Proof.RI

open Cert.ReferenceIdeal Cert.ReferenceIdeal.Gen
open Idealize.ShloMosaic

/-- The score factor of each query head. -/
def rFactor (q : FVec Ideal S16 .f32) (ks : FVec Ideal S2 .f32) : FVec Ideal S2x8 .f32 :=
  mulf (mulf (shapeCast S2x8 q shapeCasts_S16_S2x8) (broadcastInDim S2x8 ![0, 1] bcast_S2x1_S2x8_0_1 (broadcastInDim S2x1 ![0] bcast_S2_S2x1_0 ks)))
    (broadcastInDim S2x8 ![] bcast_S_S2x8 (constant S_ .f32 0x3DB504F3#32))

/-- The scores, scaled. -/
def rScaled (x : FVec Ideal S8x2048x2048 .f32) (k : FVec Ideal S8x2048x256 .f32) (f : FVec Ideal S2x8 .f32) : FVec Ideal S8x2x8x2048x2048 .f32 :=
  mulf (mulf (transpose S8x2x8x2048x2048 [0, 1, 4, 3, 2]
        (Host.dotGeneral dot_S8x2048x2x128_S8x2048x2x8x128_S8x2x2048x2048x8_3_4_1_13_02_02 none
          (shapeCast S8x2048x2x128 k shapeCasts_S8x2048x256_S8x2048x2x128) (shapeCast S8x2048x2x8x128 x shapeCasts_S8x2048x2048_S8x2048x2x8x128) : FVec Ideal S8x2x2048x2048x8 .f32)
        transposes_S8x2x2048x2048x8_S8x2x8x2048x2048_0_1_4_3_2)
      (broadcastInDim S8x2x8x2048x2048 ![0, 1, 2, 3, 4] bcast_S1x2x8x1x1_S8x2x8x2048x2048_0_1_2_3_4 (broadcastInDim S1x2x8x1x1 ![1, 2] bcast_S2x8_S1x2x8x1x1_1_2 f)))
    (broadcastInDim S8x2x8x2048x2048 ![] bcast_S_S8x2x8x2048x2048 (constant S_ .f32 0x3CA3D70A#32))

/-- The soft-capped scores. -/
def rCapped (z : FVec Ideal S8x2x8x2048x2048 .f32) : FVec Ideal S8x2x8x2048x2048 .f32 :=
  mulf (broadcastInDim S8x2x8x2048x2048 ![] bcast_S_S8x2x8x2048x2048 (constant S_ .f32 0x42480000#32)) (Host.tanh z)

/-- Which keys a query sees: those not after it. -/
def rSeen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The masked scores. -/
def rMasked (l : FVec Ideal S8x2x8x2048x2048 .f32) : FVec Ideal S8x2x8x2048x2048 .f32 :=
  select (broadcastInDim S8x2x8x2048x2048 ![3, 4] bcast_S2048x2048_S8x2x8x2048x2048_3_4 rSeen) l
    (broadcastInDim S8x2x8x2048x2048 ![] bcast_S_S8x2x8x2048x2048 (constant S_ .f32 0xFF800000#32))

/-- The largest score of each query. -/
def rMax (l : FVec Ideal S8x2x8x2048x2048 .f32) : FVec Ideal S8x2x8x2048 .f32 :=
  Host.reduce FloatOps.maximumf l (constant S_ .f32 0xFF800000#32) reducesTo_S8x2x8x2048x2048_S8x2x8x2048_d4 h_S_

/-- The larger of a value and minus infinity, as the reference takes it. -/
def rFloor (v : FVec Ideal S8x2x8x2048 .f32) : FVec Ideal S8x2x8x2048 .f32 :=
  maximumf (broadcastInDim S8x2x8x2048 ![] bcast_S_S8x2x8x2048 (constant S_ .f32 0xFF800000#32)) v

/-- A per-query value, along the keys. -/
def rAlong (v : FVec Ideal S8x2x8x2048 .f32) : FVec Ideal S8x2x8x2048x2048 .f32 :=
  broadcastInDim S8x2x8x2048x2048 ![0, 1, 2, 3, 4] bcast_S8x2x8x2048x1_S8x2x8x2048x2048_0_1_2_3_4
    (broadcastInDim S8x2x8x2048x1 ![0, 1, 2, 3] bcast_S8x2x8x2048_S8x2x8x2048x1_0_1_2_3 v)

/-- The exponentials of the scores less `t`. -/
def rExp (l : FVec Ideal S8x2x8x2048x2048 .f32) (t : FVec Ideal S8x2x8x2048 .f32) : FVec Ideal S8x2x8x2048x2048 .f32 := Host.exp (subf l (rAlong t))

/-- Each query's sum of exponentials. -/
def rSum (e : FVec Ideal S8x2x8x2048x2048 .f32) : FVec Ideal S8x2x8x2048 .f32 :=
  Host.reduceAdd e (constant S_ .f32 0x00000000#32) reducesTo_S8x2x8x2048x2048_S8x2x8x2048_d4 h_S_

/-- The codes of the weights, from the exponentials and their sums. -/
def rCodes (e : FVec Ideal S8x2x8x2048x2048 .f32) (t : FVec Ideal S8x2x8x2048 .f32) : FVec Ideal S8x2x8x2048x2048 .f32 :=
  minimumf (broadcastInDim S8x2x8x2048x2048 ![] bcast_S_S8x2x8x2048x2048 (constant S_ .f32 0x43E00000#32))
    (maximumf (broadcastInDim S8x2x8x2048x2048 ![] bcast_S_S8x2x8x2048x2048 (constant S_ .f32 0xC3E00000#32))
      (mulf (Host.divf e (rAlong t)) (broadcastInDim S8x2x8x2048x2048 ![] bcast_S_S8x2x8x2048x2048 (constant S_ .f32 0x43800000#32))))

/-- The result of the codes and the values. -/
def rOut (v : FVec Ideal S8x2048x256 .f32) (p : FVec Ideal S8x2x8x2048x2048 .f32) (vs : FVec Ideal S2 .f32) : FVec Ideal S8x2048x2048 .bf16 :=
  truncf .bf16 (shapeCast S8x2048x2048
    (mulf (transpose S8x2048x2x8x128 [0, 4, 1, 3, 2]
        (Host.dotGeneral dot_S8x2048x2x128_S8x2x8x2048x2048_S8x2x128x8x2048_1_4_3_23_02_01 none
          (shapeCast S8x2048x2x128 v shapeCasts_S8x2048x256_S8x2048x2x128) p : FVec Ideal S8x2x128x8x2048 .f32)
        transposes_S8x2x128x8x2048_S8x2048x2x8x128_0_4_1_3_2)
      (broadcastInDim S8x2048x2x8x128 ![0, 1, 2, 3, 4] bcast_S1x1x2x1x1_S8x2048x2x8x128_0_1_2_3_4
        (mulf (broadcastInDim S1x1x2x1x1 ![2] bcast_S2_S1x1x2x1x1_2 vs) (broadcastInDim S1x1x2x1x1 ![] bcast_S_S1x1x2x1x1 (constant S_ .f32 0x3B800000#32)))))
    shapeCasts_S8x2048x2x8x128_S8x2048x2048) bitsLt_bf16_f32

/-- The masked scores of the arguments. -/
def rLogits (x : FVec Ideal S8x2048x2048 .f32) (q : FVec Ideal S16 .f32) (k : FVec Ideal S8x2048x256 .f32) (ks : FVec Ideal S2 .f32) :
    FVec Ideal S8x2x8x2048x2048 .f32 := rMasked (rCapped (rScaled x k (rFactor q ks)))

/-- The exponentials, their largest subtracted. -/
def rExps (l : FVec Ideal S8x2x8x2048x2048 .f32) : FVec Ideal S8x2x8x2048x2048 .f32 := rExp l (rFloor (rMax l))

/-- All of it. -/
def rAll (x : FVec Ideal S8x2048x2048 .f32) (q : FVec Ideal S16 .f32) (k : FVec Ideal S8x2048x256 .f32) (ks : FVec Ideal S2 .f32)
    (v : FVec Ideal S8x2048x256 .f32) (vs : FVec Ideal S2 .f32) : FVec Ideal S8x2048x2048 .bf16 :=
  rOut v (rCodes (rExps (rLogits x q k ks)) (rSum (rExps (rLogits x q k ks)))) vs

end Cert.Proof.RI

end
-- ==== Proof.RefHost.lean ====
/-
  What the reference's host operations leave in its result buffer.
-/
module

public import proofs.«01_k».proof.Proof.RefStages
public import Idealize.ShloMosaic.Lib.StableHlo.RunRead

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic

theorem after_out (W : Valuation τ sig (Elt Ideal)) :
    StableHlo.after (List.flatten [hostOps1, hostOps1_1, hostOps1_2, hostOps1_3, hostOps1_4]) W (Proc.devRef .tc main_v50)
      = rAll (W (Proc.devRef .tc main_v0_0)) (W (Proc.devRef .tc main_arg1)) (W (Proc.devRef .tc main_v0_1)) (W (Proc.devRef .tc main_arg3))
          (W (Proc.devRef .tc main_v0_2)) (W (Proc.devRef .tc main_arg5)) := by
  after_reads_simp
  simp -implicitDefEqProofs only [StableHlo.TRef.toBuf, StableHlo.TRef.ofBuf, cast_cast, cast_eq]
  rfl

end Cert.Proof.RI

end
-- ==== Proof.RefValue.lean ====
/-
  The reference's stages read at an index, and their result: the attention of the arguments.
-/
module

public import proofs.«01_k».proof.Proof.RefStages
public import Idealize.ShloMosaic.Lib.WordCmp

@[expose] public section

set_option maxRecDepth 16384

noncomputable section

namespace Cert.Proof.RI

open Cert.ReferenceIdeal Cert.ReferenceIdeal.Gen
open Idealize.ShloMosaic

theorem rFactor_apply (q : FVec Ideal S16 .f32) (ks : FVec Ideal S2 .f32) (h : Fin 2) (g : Fin 8) :
    rFactor q ks (ix2 h g) = q (ix1 ⟨h.val * 8 + g.val, by omega⟩) * ks (ix1 h) * Ideal.ofBits .f32 0x3DB504F3#32 := by
  pointwise [rFactor]

theorem rScaled_apply (x : FVec Ideal S8x2048x2048 .f32) (k : FVec Ideal S8x2048x256 .f32) (f : FVec Ideal S2x8 .f32)
    (b : Fin 8) (h : Fin 2) (g : Fin 8) (q s : Fin 2048) :
    rScaled x k f (ix5 b h g q s) = (∑ d : Fin 128, k (ix3 b s ⟨h.val * 128 + d.val, by omega⟩) * x (ix3 b q ⟨(h.val * 8 + g.val) * 128 + d.val, by omega⟩))
      * f (ix2 h g) * Ideal.ofBits .f32 0x3CA3D70A#32 := by
  pointwise [rScaled]
  refine congrArg (· * _ * _) (Finset.sum_congr rfl fun d _ => ?_)
  refine congrArg (fun i => _ * x (ix3 b q i)) (Fin.ext ?_)
  show h.val * 1024 + g.val * 128 + d.val = (h.val * 8 + g.val) * 128 + d.val
  omega

theorem rCapped_apply (z : FVec Ideal S8x2x8x2048x2048 .f32) (b : Fin 8) (h : Fin 2) (g : Fin 8) (q s : Fin 2048) :
    rCapped z (ix5 b h g q s) = capped (z (ix5 b h g q s)) := by
  unfold capped
  rw [← ofBits_fifty]
  pointwise [rCapped]

theorem rMasked_apply (l : FVec Ideal S8x2x8x2048x2048 .f32) (b : Fin 8) (h : Fin 2) (g : Fin 8) (q s : Fin 2048) :
    rMasked l (ix5 b h g q s) = if s ≤ q then l (ix5 b h g q s) else ⊥ := by
  rw [← ofBits_neg_inf]
  pointwise [rMasked, rSeen]
  have hq := q.isLt
  have hs := s.isLt
  unfold Scalar.select
  by_cases hsq : s ≤ q
  · rw [if_pos hsq, (WordCmp.cmpi_sle_ofNat_eq_one_iff (by omega) (by omega)).2 hsq]
    rfl
  · rw [if_neg hsq]
    exact if_neg (mt (WordCmp.cmpi_sle_ofNat_eq_one_iff (by omega) (by omega)).1 hsq)

theorem reduces_keys : S8x2x8x2048x2048.Reduces [4] S8x2x8x2048 := by decide

theorem lift_keys (b : Fin 8) (h : Fin 2) (g : Fin 8) (q s : Fin 2048) : reduces_keys.lift (ix4 b h g q) s = ix5 b h g q s := by
  funext a
  apply Fin.ext
  refine (Shape.Reduces.lift_val reduces_keys (ix4 b h g q) s a).trans ?_
  fin_cases a <;> rfl

theorem rMax_apply (l : FVec Ideal S8x2x8x2048x2048 .f32) (b : Fin 8) (h : Fin 2) (g : Fin 8) (q : Fin 2048) :
    rMax l (ix4 b h g q) = Finset.univ.fold max (Ideal.ofBits .f32 0xFF800000#32) fun s : Fin 2048 => l (ix5 b h g q s) := by
  unfold rMax
  refine (Host.reduce_eq_fold_single _ _ _ _ reduces_keys _ _).trans ?_
  rw [show (l ∘ reduces_keys.lift (ix4 b h g q)) = fun s : Fin 2048 => l (ix5 b h g q s) from funext fun s => congrArg l (lift_keys b h g q s)]
  rfl

theorem rFloor_apply (v : FVec Ideal S8x2x8x2048 .f32) (b : Fin 8) (h : Fin 2) (g : Fin 8) (q : Fin 2048) :
    rFloor v (ix4 b h g q) = max (Ideal.ofBits .f32 0xFF800000#32) (v (ix4 b h g q)) := by
  pointwise [rFloor]

/-- The largest score of a query. -/
theorem rTop_apply (l : FVec Ideal S8x2x8x2048x2048 .f32) (b : Fin 8) (h : Fin 2) (g : Fin 8) (q : Fin 2048) :
    rFloor (rMax l) (ix4 b h g q) = max ⊥ (Finset.univ.fold max ⊥ fun s : Fin 2048 => l (ix5 b h g q s)) := by
  rw [rFloor_apply, rMax_apply, ofBits_neg_inf]

theorem rSum_apply (e : FVec Ideal S8x2x8x2048x2048 .f32) (b : Fin 8) (h : Fin 2) (g : Fin 8) (q : Fin 2048) :
    rSum e (ix4 b h g q) = ∑ s : Fin 2048, e (ix5 b h g q s) := by
  pointwise [rSum]

theorem rExp_apply (l : FVec Ideal S8x2x8x2048x2048 .f32) (t : FVec Ideal S8x2x8x2048 .f32) (b : Fin 8) (h : Fin 2) (g : Fin 8) (q s : Fin 2048) :
    rExp l t (ix5 b h g q s) = Ideal.exp (l (ix5 b h g q s) - t (ix4 b h g q)) := by
  pointwise [rExp, rAlong]

theorem rCodes_apply (e : FVec Ideal S8x2x8x2048x2048 .f32) (t : FVec Ideal S8x2x8x2048 .f32) (b : Fin 8) (h : Fin 2) (g : Fin 8) (q s : Fin 2048) :
    rCodes e t (ix5 b h g q s) = clip (Ideal.div (e (ix5 b h g q s)) (t (ix4 b h g q)) * ((256 : ℝ) : EReal)) := by
  unfold clip
  rw [← ofBits_256, ← ofBits_448, ← ofBits_neg_448]
  pointwise [rCodes, rAlong]

theorem rOut_apply (v : FVec Ideal S8x2048x256 .f32) (p : FVec Ideal S8x2x8x2048x2048 .f32) (vs : FVec Ideal S2 .f32) (b : Fin 8) (q col : Fin 2048) :
    rOut v p vs (ix3 b q col) = (∑ s : Fin 2048, v (ix3 b s (kvCol (kvHead col) (inHead col)))
        * p (ix5 b (kvHead col) ⟨col.val / 128 % 8, by omega⟩ q s)) * (vs (ix1 (kvHead col)) * Ideal.ofBits .f32 0x3B800000#32) := by
  pointwise [rOut]
  rfl

/-- The factored score of the arguments, in the reference's order of factors. -/
theorem rLogits_apply (x : FVec Ideal S8x2048x2048 .f32) (q : FVec Ideal S16 .f32) (k : FVec Ideal S8x2048x256 .f32) (ks : FVec Ideal S2 .f32)
    (b : Fin 8) (i col s : Fin 2048) :
    rLogits x q k ks (ix5 b (kvHead col) ⟨col.val / 128 % 8, by omega⟩ i s) = masked (scaled x q k ks b i col) i s := by
  have hc := col.isLt
  have hq : (⟨(kvHead col).val * 8 + col.val / 128 % 8, by have := (kvHead col).isLt; omega⟩ : Fin 16) = qHead col := Fin.ext (by
    show col.val / 1024 * 8 + col.val / 128 % 8 = col.val / 128; omega)
  unfold rLogits masked
  rw [rMasked_apply, rCapped_apply, rScaled_apply, rFactor_apply]
  refine if_congr Iff.rfl (congrArg capped ?_) rfl
  unfold scaled factor
  rw [mul_assoc, hq]
  refine congrArg (· * _) (Finset.sum_congr rfl fun d _ => ?_)
  refine congrArg (fun j => _ * x (ix3 b i j)) (Fin.ext ?_)
  show (col.val / 1024 * 8 + col.val / 128 % 8) * 128 + d.val = col.val / 128 * 128 + d.val
  omega

/-- A query's exponentials, from its scores. -/
theorem rExps_apply (l : FVec Ideal S8x2x8x2048x2048 .f32) (b : Fin 8) (h : Fin 2) (g : Fin 8) (q : Fin 2048) (z : Fin 2048 → EReal)
    (hz : ∀ s, l (ix5 b h g q s) = masked z q s) (s : Fin 2048) :
    rExps l (ix5 b h g q s) = Ideal.exp (masked z q s - max ⊥ (Finset.univ.fold max ⊥ (masked z q))) := by
  unfold rExps
  rw [rExp_apply, rTop_apply, hz]
  rw [show (fun s : Fin 2048 => l (ix5 b h g q s)) = masked z q from funext hz]

/-- The reference's result. -/
theorem rAll_eq (x : FVec Ideal S8x2048x2048 .f32) (q : FVec Ideal S16 .f32) (k : FVec Ideal S8x2048x256 .f32) (ks : FVec Ideal S2 .f32)
    (v : FVec Ideal S8x2048x256 .f32) (vs : FVec Ideal S2 .f32) : rAll x q k ks v vs = (attention x q k ks v vs : SX.Idx → EReal) := by
  funext y
  obtain ⟨b, i, col, rfl⟩ : ∃ (b : Fin 8) (i col : Fin 2048), y = ix3 b i col := ⟨y 0, y 1, y 2, by funext a; fin_cases a <;> rfl⟩
  show rAll x q k ks v vs (ix3 b i col) = attend x q k ks v vs b i col
  unfold rAll attend
  refine (rOut_apply _ _ _ b i col).trans (congrArg (· * _) (Finset.sum_congr rfl fun s _ => congrArg (_ * ·) ?_))
  have he := rExps_apply (rLogits x q k ks) b (kvHead col) ⟨col.val / 128 % 8, by omega⟩ i (scaled x q k ks b i col)
    (fun s => rLogits_apply x q k ks b i col s)
  rw [rCodes_apply, rSum_apply, he, Finset.sum_congr rfl fun s _ => he s, softmax_eq]
  rfl

end Cert.Proof.RI

end
-- ==== Proof.RefRun.lean ====
/-
  The reference's run over the extended reals: its result buffer holds the attention of its arguments.
-/
module

public import proofs.«01_k».proof.Proof.RefHost
public import proofs.«01_k».proof.Proof.RefValue
public import proofs.«01_k».proof.Proof.Gen.ReferenceIdeal.Frame
public import Idealize.ShloMosaic.Lib.Claim
public import Idealize.ShloMosaic.Lib.Pipeline.ValueKit

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.ShloMosaic.Pipeline (Dat Cfg Window)
open Idealize.SL.Sem

variable (m : (ℓ : Loc nD τ sig) → Buf (Elt Ideal) ℓ) (ρ : Dev nD → PrngReg)

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)

/-- The arguments as arrays. -/
abbrev aX (c : Dev nD) : SX.Idx → EReal := m ((c : Thread nD τ).loc main_arg0)
abbrev aQ (c : Dev nD) : SQ.Idx → EReal := m ((c : Thread nD τ).loc main_arg1)
abbrev aK (c : Dev nD) : SK.Idx → EReal := m ((c : Thread nD τ).loc main_arg2)
abbrev aKS (c : Dev nD) : SH.Idx → EReal := m ((c : Thread nD τ).loc main_arg3)
abbrev aV (c : Dev nD) : SK.Idx → EReal := m ((c : Thread nD τ).loc main_arg4)
abbrev aVS (c : Dev nD) : SH.Idx → EReal := m ((c : Thread nD τ).loc main_arg5)

/-- The first call widens its three operands, which over the extended reals leaves them as they are. -/
theorem array3 (c : Dev nD) : (dats m 0 c).arrAt 3 cfg0.N = aX m c := by
  refine (dats m 0 c).arrAt_eq_of_covers 3 _ (by decide +kernel) fun t hf y => ?_
  blk_simp
  rw [after0_3]
  frame_out
  blk_simp [iblk]
  show V m c (Pipeline.arrRef spec0 0) (((cfg0.win 0).blk t).view.emb y) = _
  refine congrArg (m (c.tc.loc main_arg0)) ?_
  blk_ext [index0, index3]

theorem array4 (c : Dev nD) : (dats m 0 c).arrAt 4 cfg0.N = aK m c := by
  refine (dats m 0 c).arrAt_eq_of_covers 4 _ (by decide +kernel) fun t hf y => ?_
  blk_simp
  rw [after0_4]
  frame_out
  blk_simp [iblk]
  show V m c (Pipeline.arrRef spec0 1) (((cfg0.win 1).blk t).view.emb y) = _
  refine congrArg (m (c.tc.loc main_arg2)) ?_
  blk_ext [index1, index4]

theorem array5 (c : Dev nD) : (dats m 0 c).arrAt 5 cfg0.N = aV m c := by
  refine (dats m 0 c).arrAt_eq_of_covers 5 _ (by decide +kernel) fun t hf y => ?_
  blk_simp
  rw [after0_5]
  frame_out
  blk_simp [iblk]
  show V m c (Pipeline.arrRef spec0 2) (((cfg0.win 2).blk t).view.emb y) = _
  refine congrArg (m (c.tc.loc main_arg4)) ?_
  blk_ext [index2, index5]

/-- The buffer contents the host operations start from. -/
def start (c : Dev nD) : Valuation τ sig (Elt Ideal) :=
  Pipeline.withArrays (cfgs 0).spec c (V0 m c) fun w => (dats m 0 c).arrAt w (cfgs 0).N

theorem arrRef_inj : Function.Injective (Pipeline.arrRef (cfgs 0).spec) := by decide

theorem start_v0_0 (c : Dev nD) : start m c (Proc.devRef .tc main_v0_0) = aX m c :=
  (Pipeline.withArrays_arr (cfgs 0).spec arrRef_inj c (V0 m c) _ 3).trans (array3 m c)
theorem start_v0_1 (c : Dev nD) : start m c (Proc.devRef .tc main_v0_1) = aK m c :=
  (Pipeline.withArrays_arr (cfgs 0).spec arrRef_inj c (V0 m c) _ 4).trans (array4 m c)
theorem start_v0_2 (c : Dev nD) : start m c (Proc.devRef .tc main_v0_2) = aV m c :=
  (Pipeline.withArrays_arr (cfgs 0).spec arrRef_inj c (V0 m c) _ 5).trans (array5 m c)
theorem start_arg1 (c : Dev nD) : start m c (Proc.devRef .tc main_arg1) = aQ m c :=
  Pipeline.withArrays_of_ne _ c (V0 m c) _ main_arg1 (by exact (by decide : ∀ w, Pipeline.arrRef spec0 w ≠ main_arg1))
theorem start_arg3 (c : Dev nD) : start m c (Proc.devRef .tc main_arg3) = aKS m c :=
  Pipeline.withArrays_of_ne _ c (V0 m c) _ main_arg3 (by exact (by decide : ∀ w, Pipeline.arrRef spec0 w ≠ main_arg3))
theorem start_arg5 (c : Dev nD) : start m c (Proc.devRef .tc main_arg5) = aVS m c :=
  Pipeline.withArrays_of_ne _ c (V0 m c) _ main_arg5 (by exact (by decide : ∀ w, Pipeline.arrRef spec0 w ≠ main_arg5))

/-- What the result buffer holds at the end. -/
theorem final (c : Dev nD) :
    Pipeline.afterTail₀ cfgs (dats m) 0 (V0 m) [hostOps1, hostOps1_1, hostOps1_2, hostOps1_3, hostOps1_4] c main_v50
      = (attention (aX m c) (aQ m c) (aK m c) (aKS m c) (aV m c) (aVS m c) : SX.Idx → EReal) := by
  refine (after_out (start m c)).trans ?_
  rw [start_v0_0, start_v0_1, start_v0_2, start_arg1, start_arg3, start_arg5]
  exact rAll_eq _ _ _ _ _ _

/-- The reference runs, its result the attention of its arguments, which it leaves as they were. -/
theorem run : θ_run defs (onTc (τ := τ) (main (F := Ideal))) ⟨m, fun _ => 0, ρ⟩ (fun r => ∀ c : Dev nD,
      r.2.mem ((c.tc : Thread nD τ).loc main_v50) = attention (aX m c) (aQ m c) (aK m c) (aKS m c) (aV m c) (aVS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from Gen.run_main m ρ
  · exact final m c
  · exact Gen.W_main_arg1 m (dats m) c
  · exact Gen.W_main_arg3 m (dats m) c
  · exact Gen.W_main_arg5 m (dats m) c

end Cert.Proof.RI

end
-- ==== Proof.Same.lean ====
/-
  The kernel and the reference, from the same arguments over the extended reals, end with the same result.
-/
module

public import proofs.«01_k».proof.Defs
public import proofs.«01_k».proof.Proof.KernelValue
public import proofs.«01_k».proof.Proof.RefRun

@[expose] public section

noncomputable section

namespace Cert.Proof

open Idealize.ShloMosaic Idealize.ShloMosaic.TcCoe Idealize.SL.Sem

/-- The kernel runs, its result the attention of its arguments. -/
theorem KI.value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8)
        = attention (KI.aX m c) (KI.aQ m c) (KI.aK m c) (KI.aKS m c) (KI.aV m c) (KI.aVS m c)) :=
  (θ_run Cert.KernelIdeal.defs _ _).mono (fun _ h c => ((h c).1 5).trans (KI.final m c)) (KI.run_main m ρ)

/-- Equal arguments have equal attentions. -/
theorem attention_congr {X X' : SX.Idx → EReal} {Q Q' : SQ.Idx → EReal} {K K' : SK.Idx → EReal} {KS KS' : SH.Idx → EReal} {V V' : SK.Idx → EReal}
    {VS VS' : SH.Idx → EReal} (h0 : X' = X) (h1 : Q' = Q) (h2 : K' = K) (h3 : KS' = KS) (h4 : V' = V) (h5 : VS' = VS) :
    attention X' Q' K' KS' V' VS' = attention X Q K KS V VS := by
  rw [h0, h1, h2, h3, h4, h5]

/-- The value claim. -/
theorem same : algebraic_KernelIdeal_ReferenceIdeal := fun m g m' g' _ h =>
  ⟨fun c => attention (KI.aX m c) (KI.aQ m c) (KI.aK m c) (KI.aKS m c) (KI.aV m c) (KI.aVS m c),
    (θ_run Cert.KernelIdeal.defs _ _).mono (fun _ hr c => ⟨hr.1 c, hr.2 c⟩) (θ_run_and (KI.value m g) (KI.unchanged m g)),
    (θ_run Cert.ReferenceIdeal.defs _ _).mono (fun _ hr c => ⟨(hr c).1.trans (by
      obtain ⟨h0, h1, h2, h3, h4, h5⟩ := h c
      exact attention_congr h0 h1 h2 h3 h4 h5), (hr c).2⟩) (RI.run m' g')⟩

end Cert.Proof

end
-- ==== Proof.lean ====
/-
  The proof of `Cert.Claim`: the frames of the kernel, of its idealization and of the reference, that the idealization
  only gave the named constant its meaning, and that the idealization and the reference end with the same result.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameB
public import proofs.«01_k».proof.Proof.FrameI
public import proofs.«01_k».proof.Proof.Same
public import Idealize.ShloMosaic.Adequacy
public import Idealize.ShloMosaic.Init

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts,
  fun m ρ _ => KB.frame m ρ,
  fun m ρ _ => KI.frame m ρ,
  fun m ρ _ => Cert.ReferenceIdeal.Gen.frame m ρ,
  IdealRules.named_const.statement Cert.KernelIdeal.κ "softcap_log2e" .f32 0x429044FE#32 ((50 * (Real.log 2)⁻¹ : ℝ) : EReal) rfl,
  same⟩

end Cert.Proof

end
